-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_short_vectors_KernelIdeal [hPre_short_vectors_KernelIdeal : Cert.Pre_short_vectors_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_short_vectors_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_short_vectors_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_short_vectors_ReferenceIdeal [hPre_short_vectors_ReferenceIdeal : Cert.Pre_short_vectors_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_short_vectors_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_short_vectors_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_short_vectors_KernelIdeal [hKernelIdeal : Cert.KernelIdeal.Facts] [hPre_short_vectors_KernelIdeal : Cert.Pre_short_vectors_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_short_vectors_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_short_vectors_ReferenceIdeal [hReferenceIdeal : Cert.ReferenceIdeal.Facts] [hPre_short_vectors_ReferenceIdeal : Cert.Pre_short_vectors_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_short_vectors_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_short_vectors_KernelIdeal [hKernelIdeal : Cert.KernelIdeal.Facts] [hReferenceIdeal : Cert.ReferenceIdeal.Facts] [hPre_short_vectors_KernelIdeal : Cert.Pre_short_vectors_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_short_vectors_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_short_vectors_KernelIdeal : Cert.Pre_short_vectors_KernelIdeal.Facts) (hPre_short_vectors_ReferenceIdeal : Cert.Pre_short_vectors_ReferenceIdeal.Facts),
    quiescent_Kernel (hKernel := hKernel)
    ∧ quiescent_KernelIdeal (hKernelIdeal := hKernelIdeal)
    ∧ quiescent_KernelIdeal_pre_short_vectors_KernelIdeal (hKernelIdeal := hKernelIdeal) (hPre_short_vectors_KernelIdeal := hPre_short_vectors_KernelIdeal)
    ∧ quiescent_ReferenceIdeal (hReferenceIdeal := hReferenceIdeal)
    ∧ quiescent_ReferenceIdeal_pre_short_vectors_ReferenceIdeal (hReferenceIdeal := hReferenceIdeal) (hPre_short_vectors_ReferenceIdeal := hPre_short_vectors_ReferenceIdeal)
    ∧ preserves_Kernel_KernelIdeal
    ∧ algebraic_KernelIdeal_ReferenceIdeal_pre_short_vectors_KernelIdeal (hKernelIdeal := hKernelIdeal) (hReferenceIdeal := hReferenceIdeal) (hPre_short_vectors_KernelIdeal := hPre_short_vectors_KernelIdeal)
-- ==== Pre_short_vectors_KernelIdeal.lean ====
abbrev S512x4096 : Shape := ⟨2, ![512, 4096]⟩
abbrev S4096x256 : Shape := ⟨2, ![4096, 256]⟩
abbrev S1 : Shape := ⟨1, ![1]⟩
abbrev S_ : Shape := ⟨0, ![]⟩
abbrev S512 : Shape := ⟨1, ![512]⟩
abbrev S256 : Shape := ⟨1, ![256]⟩

class Facts : Prop where
  natLt_8_32 : 8 < 32
  reducesTo_S512x4096_S512_d1 : S512x4096.ReducesTo [1] S512
  h_S_ : 0 < S_.numel
  bcast_S_S512 : S_.BroadcastsInDim S512 (![] : Fin 0 → Fin S512.rank)
  reducesTo_S4096x256_S256_d0 : S4096x256.ReducesTo [0] S256
  bcast_S_S256 : S_.BroadcastsInDim S256 (![] : Fin 0 → Fin S256.rank)

variable [Facts]

def fn {F : FTy → Type} [FloatOps F] (main_arg0 : IVec S512x4096 8) (main_arg1 : IVec S4096x256 8) (main_arg2 : FVec F S1 .f32) (main_arg3 : FVec F S1 .f32) : IVec S512 1 × IVec S256 1 :=
  let main_v0 : IVec S512x4096 32 := (extsi 32 · natLt_8_32) main_arg0
  let main_v1 : FVec F S512x4096 .f32 := sitofp .f32 main_v0
  let main_v2 : IVec S4096x256 32 := (extsi 32 · natLt_8_32) main_arg1
  let main_v3 : FVec F S4096x256 .f32 := sitofp .f32 main_v2
  let main_v4 : FVec F S512x4096 .f32 := mulf main_v1 main_v1
  let main_cst : FVec F S_ .f32 := constant S_ .f32 0x00000000#32
  let main_v5 : FVec F S512 .f32 := (fun x v => Host.reduceAdd x v reducesTo_S512x4096_S512_d1 h_S_) main_v4 main_cst
  let main_cst_0 : FVec F S_ .f32 := constant S_ .f32 0x4B7FFFFF#32
  let main_v6 : FVec F S512 .f32 := broadcastInDim S512 ![] bcast_S_S512 main_cst_0
  let main_v7 : IVec S512 1 := cmpf .ole main_v5 main_v6
  let main_v8 : FVec F S4096x256 .f32 := mulf main_v3 main_v3
  let main_cst_1 : FVec F S_ .f32 := constant S_ .f32 0x00000000#32
  let main_v9 : FVec F S256 .f32 := (fun x v => Host.reduceAdd x v reducesTo_S4096x256_S256_d0 h_S_) main_v8 main_cst_1
  let main_cst_2 : FVec F S_ .f32 := constant S_ .f32 0x4B7FFFFF#32
  let main_v10 : FVec F S256 .f32 := broadcastInDim S256 ![] bcast_S_S256 main_cst_2
  let main_v11 : IVec S256 1 := cmpf .ole main_v9 main_v10
  (main_v7, main_v11)
-- ==== Pre_short_vectors_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩
abbrev S2048 : Shape := ⟨1, ![2048]⟩

class Facts : Prop where
  natLt_8_32 : 8 < 32
  reducesTo_S4096x4096_S4096_d1 : S4096x4096.ReducesTo [1] S4096
  h_S_ : 0 < S_.numel
  bcast_S_S4096 : S_.BroadcastsInDim S4096 (![] : Fin 0 → Fin S4096.rank)
  reducesTo_S4096x2048_S2048_d0 : S4096x2048.ReducesTo [0] S2048
  bcast_S_S2048 : S_.BroadcastsInDim S2048 (![] : Fin 0 → Fin S2048.rank)

variable [Facts]

def fn {F : FTy → Type} [FloatOps F] (main_arg0 : IVec S4096x4096 8) (main_arg1 : IVec S4096x2048 8) (main_arg2 : FVec F S1 .f32) (main_arg3 : FVec F S1 .f32) : IVec S4096 1 × IVec S2048 1 :=
  let main_v0 : IVec S4096x4096 32 := (extsi 32 · natLt_8_32) main_arg0
  let main_v1 : FVec F S4096x4096 .f32 := sitofp .f32 main_v0
  let main_v2 : IVec S4096x2048 32 := (extsi 32 · natLt_8_32) main_arg1
  let main_v3 : FVec F S4096x2048 .f32 := sitofp .f32 main_v2
  let main_v4 : FVec F S4096x4096 .f32 := mulf main_v1 main_v1
  let main_cst : FVec F S_ .f32 := constant S_ .f32 0x00000000#32
  let main_v5 : FVec F S4096 .f32 := (fun x v => Host.reduceAdd x v reducesTo_S4096x4096_S4096_d1 h_S_) main_v4 main_cst
  let main_cst_0 : FVec F S_ .f32 := constant S_ .f32 0x4B7FFFFF#32
  let main_v6 : FVec F S4096 .f32 := broadcastInDim S4096 ![] bcast_S_S4096 main_cst_0
  let main_v7 : IVec S4096 1 := cmpf .ole main_v5 main_v6
  let main_v8 : FVec F S4096x2048 .f32 := mulf main_v3 main_v3
  let main_cst_1 : FVec F S_ .f32 := constant S_ .f32 0x00000000#32
  let main_v9 : FVec F S2048 .f32 := (fun x v => Host.reduceAdd x v reducesTo_S4096x2048_S2048_d0 h_S_) main_v8 main_cst_1
  let main_cst_2 : FVec F S_ .f32 := constant S_ .f32 0x4B7FFFFF#32
  let main_v10 : FVec F S2048 .f32 := broadcastInDim S2048 ![] bcast_S_S2048 main_cst_2
  let main_v11 : IVec S2048 1 := cmpf .ole main_v9 main_v10
  (main_v7, main_v11)
-- ==== Kernel.lean ====
abbrev S512x4096 : Shape := ⟨2, ![512, 4096]⟩
abbrev S4096x256 : Shape := ⟨2, ![4096, 256]⟩
abbrev S1 : Shape := ⟨1, ![1]⟩
abbrev S7x256x4096 : Shape := ⟨3, ![7, 256, 4096]⟩
abbrev S7 : Shape := ⟨1, ![7]⟩
abbrev S_ : Shape := ⟨0, ![]⟩
abbrev S1x256x4096 : Shape := ⟨3, ![1, 256, 4096]⟩
abbrev S256x4096 : Shape := ⟨2, ![256, 4096]⟩
abbrev S512x256 : Shape := ⟨2, ![512, 256]⟩
abbrev S256x256 : Shape := ⟨2, ![256, 256]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .i8⟩
  | .hbm, ⟨1, _⟩ => ⟨S4096x256, .i8⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .i8⟩
  | .local _ .vmem, ⟨1, _⟩ => ⟨S4096x256, .i8⟩
  | .local _ .vmem, ⟨2, _⟩ => ⟨S4096x256, .f32⟩
  | .local _ .vmem, ⟨3, _⟩ => ⟨S7x256x4096, .i8⟩
  | .local _ .vmem, ⟨4, _⟩ => ⟨S7x256x4096, .i8⟩
  | .local _ .smem, ⟨0, _⟩ => ⟨S1, .f32⟩
  | .local _ .smem, ⟨1, _⟩ => ⟨S1, .f32⟩
  | _, _ => ⟨S512x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_34 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_22 v19
  let c1_i32_21 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v57 : BitVec 32 := Scalar.subi c1_i32_21 v39
  let v59 : BitVec 32 := Scalar.addi v58 v57
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32 : BitVec 32 := 3#32
  let c2_i32_23 : BitVec 32 := 2#32
  let v60 : BitVec 32 := Scalar.muli c2_i32_23 v57
  let v61 : BitVec 32 := Scalar.subi c3_i32 v60
  let v62 : BitVec 32 := Scalar.muli v56 v61
  let v63 : BitVec 32 := Scalar.addi v59 v62
  let c1_i32_33 : BitVec 32 := 1#32
  let v79 : BitVec 32 := Scalar.muli v63 c1_i32_33
  let v80 : BitVec 32 := Scalar.addi c0_i32_34 v79
  v80.toNat
def k0_dev2 (d0 : Dev nD) : Nat :=
  let c0_i32_37 : BitVec 32 := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_25 v19
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v66 : BitVec 32 := Scalar.addi v65 v39
  let c1_i32_24 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v64 : BitVec 32 := Scalar.subi c1_i32_24 v56
  let c3_i32_27 : BitVec 32 := 3#32
  let c2_i32_26 : BitVec 32 := 2#32
  let v67 : BitVec 32 := Scalar.muli c2_i32_26 v39
  let v68 : BitVec 32 := Scalar.subi c3_i32_27 v67
  let v69 : BitVec 32 := Scalar.muli v64 v68
  let v70 : BitVec 32 := Scalar.addi v66 v69
  let c1_i32_36 : BitVec 32 := 1#32
  let v81 : BitVec 32 := Scalar.muli v70 c1_i32_36
  let v82 : BitVec 32 := Scalar.addi c0_i32_37 v81
  v82.toNat
def k0_dev3 (d0 : Dev nD) : Nat :=
  let c0_i32_40 : BitVec 32 := 0#32
  let c4_i32_29 : BitVec 32 := 4#32
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v71 : BitVec 32 := Scalar.subi c1_i32_28 v19
  let v72 : BitVec 32 := Scalar.muli c4_i32_29 v71
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v73 : BitVec 32 := Scalar.addi v72 v39
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_31 : BitVec 32 := 3#32
  let c2_i32_30 : BitVec 32 := 2#32
  let v74 : BitVec 32 := Scalar.muli c2_i32_30 v39
  let v75 : BitVec 32 := Scalar.subi c3_i32_31 v74
  let v76 : BitVec 32 := Scalar.muli v56 v75
  let v77 : BitVec 32 := Scalar.addi v73 v76
  let c1_i32_39 : BitVec 32 := 1#32
  let v83 : BitVec 32 := Scalar.muli v77 c1_i32_39
  let v84 : BitVec 32 := Scalar.addi c0_i32_40 v83
  v84.toNat
def k0_dev4 (d0 : Dev nD) : Nat :=
  let c0_i32_47 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_22 v19
  let c1_i32_21 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v57 : BitVec 32 := Scalar.subi c1_i32_21 v39
  let v59 : BitVec 32 := Scalar.addi v58 v57
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32 : BitVec 32 := 3#32
  let c2_i32_23 : BitVec 32 := 2#32
  let v60 : BitVec 32 := Scalar.muli c2_i32_23 v57
  let v61 : BitVec 32 := Scalar.subi c3_i32 v60
  let v62 : BitVec 32 := Scalar.muli v56 v61
  let v63 : BitVec 32 := Scalar.addi v59 v62
  let c1_i32_46 : BitVec 32 := 1#32
  let v88 : BitVec 32 := Scalar.muli v63 c1_i32_46
  let v89 : BitVec 32 := Scalar.addi c0_i32_47 v88
  v89.toNat
def k0_dev5 (d0 : Dev nD) : Nat :=
  let c0_i32_56 : BitVec 32 := 0#32
  let c4_i32_29 : BitVec 32 := 4#32
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v71 : BitVec 32 := Scalar.subi c1_i32_28 v19
  let v72 : BitVec 32 := Scalar.muli c4_i32_29 v71
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v73 : BitVec 32 := Scalar.addi v72 v39
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_31 : BitVec 32 := 3#32
  let c2_i32_30 : BitVec 32 := 2#32
  let v74 : BitVec 32 := Scalar.muli c2_i32_30 v39
  let v75 : BitVec 32 := Scalar.subi c3_i32_31 v74
  let v76 : BitVec 32 := Scalar.muli v56 v75
  let v77 : BitVec 32 := Scalar.addi v73 v76
  let c1_i32_55 : BitVec 32 := 1#32
  let v97 : BitVec 32 := Scalar.muli v77 c1_i32_55
  let v98 : BitVec 32 := Scalar.addi c0_i32_56 v97
  v98.toNat
def k0_dev6 (d0 : Dev nD) : Nat :=
  let c0_i32_64 : BitVec 32 := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_25 v19
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v66 : BitVec 32 := Scalar.addi v65 v39
  let c1_i32_24 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v64 : BitVec 32 := Scalar.subi c1_i32_24 v56
  let c3_i32_27 : BitVec 32 := 3#32
  let c2_i32_26 : BitVec 32 := 2#32
  let v67 : BitVec 32 := Scalar.muli c2_i32_26 v39
  let v68 : BitVec 32 := Scalar.subi c3_i32_27 v67
  let v69 : BitVec 32 := Scalar.muli v64 v68
  let v70 : BitVec 32 := Scalar.addi v66 v69
  let c1_i32_63 : BitVec 32 := 1#32
  let v106 : BitVec 32 := Scalar.muli v70 c1_i32_63
  let v107 : BitVec 32 := Scalar.addi c0_i32_64 v106
  v107.toNat
def k0_dev7 (d0 : Dev nD) : Nat :=
  let c0_i32_73 : BitVec 32 := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_25 v19
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v66 : BitVec 32 := Scalar.addi v65 v39
  let c1_i32_24 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v64 : BitVec 32 := Scalar.subi c1_i32_24 v56
  let c3_i32_27 : BitVec 32 := 3#32
  let c2_i32_26 : BitVec 32 := 2#32
  let v67 : BitVec 32 := Scalar.muli c2_i32_26 v39
  let v68 : BitVec 32 := Scalar.subi c3_i32_27 v67
  let v69 : BitVec 32 := Scalar.muli v64 v68
  let v70 : BitVec 32 := Scalar.addi v66 v69
  let c1_i32_72 : BitVec 32 := 1#32
  let v115 : BitVec 32 := Scalar.muli v70 c1_i32_72
  let v116 : BitVec 32 := Scalar.addi c0_i32_73 v115
  v116.toNat
def k0_dev8 (d0 : Dev nD) : Nat :=
  let c0_i32_82 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_22 v19
  let c1_i32_21 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v57 : BitVec 32 := Scalar.subi c1_i32_21 v39
  let v59 : BitVec 32 := Scalar.addi v58 v57
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32 : BitVec 32 := 3#32
  let c2_i32_23 : BitVec 32 := 2#32
  let v60 : BitVec 32 := Scalar.muli c2_i32_23 v57
  let v61 : BitVec 32 := Scalar.subi c3_i32 v60
  let v62 : BitVec 32 := Scalar.muli v56 v61
  let v63 : BitVec 32 := Scalar.addi v59 v62
  let c1_i32_81 : BitVec 32 := 1#32
  let v124 : BitVec 32 := Scalar.muli v63 c1_i32_81
  let v125 : BitVec 32 := Scalar.addi c0_i32_82 v124
  v125.toNat
def k0_dev9 (d0 : Dev nD) : Nat :=
  let c0_i32_91 : BitVec 32 := 0#32
  let c4_i32_29 : BitVec 32 := 4#32
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v71 : BitVec 32 := Scalar.subi c1_i32_28 v19
  let v72 : BitVec 32 := Scalar.muli c4_i32_29 v71
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v73 : BitVec 32 := Scalar.addi v72 v39
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_31 : BitVec 32 := 3#32
  let c2_i32_30 : BitVec 32 := 2#32
  let v74 : BitVec 32 := Scalar.muli c2_i32_30 v39
  let v75 : BitVec 32 := Scalar.subi c3_i32_31 v74
  let v76 : BitVec 32 := Scalar.muli v56 v75
  let v77 : BitVec 32 := Scalar.addi v73 v76
  let c1_i32_90 : BitVec 32 := 1#32
  let v133 : BitVec 32 := Scalar.muli v77 c1_i32_90
  let v134 : BitVec 32 := Scalar.addi c0_i32_91 v133
  v134.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v144 : BitVec 32 := Scalar.muli v2 c512_i32
  let v151 : Index := Scalar.indexCast v144
  let c0_100 : Index := 0#32
  ![v151.toNat, 0]
def k0_dev10 (d0 : Dev nD) : Nat :=
  let c0_i32_115 : BitVec 32 := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_25 v19
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v66 : BitVec 32 := Scalar.addi v65 v39
  let c1_i32_24 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v64 : BitVec 32 := Scalar.subi c1_i32_24 v56
  let c3_i32_27 : BitVec 32 := 3#32
  let c2_i32_26 : BitVec 32 := 2#32
  let v67 : BitVec 32 := Scalar.muli c2_i32_26 v39
  let v68 : BitVec 32 := Scalar.subi c3_i32_27 v67
  let v69 : BitVec 32 := Scalar.muli v64 v68
  let v70 : BitVec 32 := Scalar.addi v66 v69
  let c1_i32_114 : BitVec 32 := 1#32
  let v160 : BitVec 32 := Scalar.muli v70 c1_i32_114
  let v161 : BitVec 32 := Scalar.addi c0_i32_115 v160
  v161.toNat
def k0_dev11 (d0 : Dev nD) : Nat :=
  let c0_i32_125 : BitVec 32 := 0#32
  let c4_i32_29 : BitVec 32 := 4#32
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v71 : BitVec 32 := Scalar.subi c1_i32_28 v19
  let v72 : BitVec 32 := Scalar.muli c4_i32_29 v71
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v73 : BitVec 32 := Scalar.addi v72 v39
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_31 : BitVec 32 := 3#32
  let c2_i32_30 : BitVec 32 := 2#32
  let v74 : BitVec 32 := Scalar.muli c2_i32_30 v39
  let v75 : BitVec 32 := Scalar.subi c3_i32_31 v74
  let v76 : BitVec 32 := Scalar.muli v56 v75
  let v77 : BitVec 32 := Scalar.addi v73 v76
  let c1_i32_124 : BitVec 32 := 1#32
  let v170 : BitVec 32 := Scalar.muli v77 c1_i32_124
  let v171 : BitVec 32 := Scalar.addi c0_i32_125 v170
  v171.toNat
def k0_dev12 (d0 : Dev nD) : Nat :=
  let c0_i32_144 : BitVec 32 := 0#32
  let c4_i32_25 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v65 : BitVec 32 := Scalar.muli c4_i32_25 v19
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v66 : BitVec 32 := Scalar.addi v65 v39
  let c1_i32_24 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v64 : BitVec 32 := Scalar.subi c1_i32_24 v56
  let c3_i32_27 : BitVec 32 := 3#32
  let c2_i32_26 : BitVec 32 := 2#32
  let v67 : BitVec 32 := Scalar.muli c2_i32_26 v39
  let v68 : BitVec 32 := Scalar.subi c3_i32_27 v67
  let v69 : BitVec 32 := Scalar.muli v64 v68
  let v70 : BitVec 32 := Scalar.addi v66 v69
  let c1_i32_143 : BitVec 32 := 1#32
  let v187 : BitVec 32 := Scalar.muli v70 c1_i32_143
  let v188 : BitVec 32 := Scalar.addi c0_i32_144 v187
  v188.toNat
def k0_dev13 (d0 : Dev nD) : Nat :=
  let c0_i32_154 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_22 v19
  let c1_i32_21 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v57 : BitVec 32 := Scalar.subi c1_i32_21 v39
  let v59 : BitVec 32 := Scalar.addi v58 v57
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32 : BitVec 32 := 3#32
  let c2_i32_23 : BitVec 32 := 2#32
  let v60 : BitVec 32 := Scalar.muli c2_i32_23 v57
  let v61 : BitVec 32 := Scalar.subi c3_i32 v60
  let v62 : BitVec 32 := Scalar.muli v56 v61
  let v63 : BitVec 32 := Scalar.addi v59 v62
  let c1_i32_153 : BitVec 32 := 1#32
  let v197 : BitVec 32 := Scalar.muli v63 c1_i32_153
  let v198 : BitVec 32 := Scalar.addi c0_i32_154 v197
  v198.toNat
def k0_dev14 (d0 : Dev nD) : Nat :=
  let c0_i32_172 : BitVec 32 := 0#32
  let c4_i32_29 : BitVec 32 := 4#32
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v71 : BitVec 32 := Scalar.subi c1_i32_28 v19
  let v72 : BitVec 32 := Scalar.muli c4_i32_29 v71
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v73 : BitVec 32 := Scalar.addi v72 v39
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_31 : BitVec 32 := 3#32
  let c2_i32_30 : BitVec 32 := 2#32
  let v74 : BitVec 32 := Scalar.muli c2_i32_30 v39
  let v75 : BitVec 32 := Scalar.subi c3_i32_31 v74
  let v76 : BitVec 32 := Scalar.muli v56 v75
  let v77 : BitVec 32 := Scalar.addi v73 v76
  let c1_i32_171 : BitVec 32 := 1#32
  let v214 : BitVec 32 := Scalar.muli v77 c1_i32_171
  let v215 : BitVec 32 := Scalar.addi c0_i32_172 v214
  v215.toNat
def k0_off2 (d0 : Dev nD) (c0_i32_185 : BitVec 32) : Fin 2 → Nat :=
  let c4_i32_181 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v227 : BitVec 32 := Scalar.muli c4_i32_181 v19
  let c1_i32_180 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v226 : BitVec 32 := Scalar.subi c1_i32_180 v39
  let v228 : BitVec 32 := Scalar.addi v227 v226
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_183 : BitVec 32 := 3#32
  let c2_i32_182 : BitVec 32 := 2#32
  let v229 : BitVec 32 := Scalar.muli c2_i32_182 v226
  let v230 : BitVec 32 := Scalar.subi c3_i32_183 v229
  let v231 : BitVec 32 := Scalar.muli v56 v230
  let v232 : BitVec 32 := Scalar.addi v228 v231
  let c512_i32_184 : BitVec 32 := 512#32
  let v233 : BitVec 32 := Scalar.muli v232 c512_i32_184
  let v234 : BitVec 32 := Scalar.addi v233 c0_i32_185
  let v241 : Index := Scalar.indexCast v234
  let c0_189 : Index := 0#32
  ![v241.toNat, 0]
def k0_off3 (d0 : Dev nD) (c256_i32_198 : BitVec 32) : Fin 2 → Nat :=
  let c4_i32_194 : BitVec 32 := 4#32
  let c1_i32_193 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v245 : BitVec 32 := Scalar.subi c1_i32_193 v19
  let v246 : BitVec 32 := Scalar.muli c4_i32_194 v245
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v247 : BitVec 32 := Scalar.addi v246 v39
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_196 : BitVec 32 := 3#32
  let c2_i32_195 : BitVec 32 := 2#32
  let v248 : BitVec 32 := Scalar.muli c2_i32_195 v39
  let v249 : BitVec 32 := Scalar.subi c3_i32_196 v248
  let v250 : BitVec 32 := Scalar.muli v56 v249
  let v251 : BitVec 32 := Scalar.addi v247 v250
  let c512_i32_197 : BitVec 32 := 512#32
  let v252 : BitVec 32 := Scalar.muli v251 c512_i32_197
  let v253 : BitVec 32 := Scalar.addi v252 c256_i32_198
  let v260 : Index := Scalar.indexCast v253
  let c0_202 : Index := 0#32
  ![v260.toNat, 0]
def k0_off4 (d0 : Dev nD) (c0_i32_210 : BitVec 32) : Fin 2 → Nat :=
  let c4_i32_206 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v265 : BitVec 32 := Scalar.muli c4_i32_206 v19
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v266 : BitVec 32 := Scalar.addi v265 v39
  let c1_i32_205 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v264 : BitVec 32 := Scalar.subi c1_i32_205 v56
  let c3_i32_208 : BitVec 32 := 3#32
  let c2_i32_207 : BitVec 32 := 2#32
  let v267 : BitVec 32 := Scalar.muli c2_i32_207 v39
  let v268 : BitVec 32 := Scalar.subi c3_i32_208 v267
  let v269 : BitVec 32 := Scalar.muli v264 v268
  let v270 : BitVec 32 := Scalar.addi v266 v269
  let c512_i32_209 : BitVec 32 := 512#32
  let v271 : BitVec 32 := Scalar.muli v270 c512_i32_209
  let v272 : BitVec 32 := Scalar.addi v271 c0_i32_210
  let v279 : Index := Scalar.indexCast v272
  let c0_214 : Index := 0#32
  ![v279.toNat, 0]
def k0_dev15 (d0 : Dev nD) : Nat :=
  let c0_i32_229 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_22 v19
  let c1_i32_21 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v57 : BitVec 32 := Scalar.subi c1_i32_21 v39
  let v59 : BitVec 32 := Scalar.addi v58 v57
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32 : BitVec 32 := 3#32
  let c2_i32_23 : BitVec 32 := 2#32
  let v60 : BitVec 32 := Scalar.muli c2_i32_23 v57
  let v61 : BitVec 32 := Scalar.subi c3_i32 v60
  let v62 : BitVec 32 := Scalar.muli v56 v61
  let v63 : BitVec 32 := Scalar.addi v59 v62
  let c1_i32_228 : BitVec 32 := 1#32
  let v288 : BitVec 32 := Scalar.muli v63 c1_i32_228
  let v289 : BitVec 32 := Scalar.addi c0_i32_229 v288
  v289.toNat
def k0_dev16 (d0 : Dev nD) : Nat :=
  let c0_i32_304 : BitVec 32 := 0#32
  let c4_i32_29 : BitVec 32 := 4#32
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v71 : BitVec 32 := Scalar.subi c1_i32_28 v19
  let v72 : BitVec 32 := Scalar.muli c4_i32_29 v71
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v73 : BitVec 32 := Scalar.addi v72 v39
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_31 : BitVec 32 := 3#32
  let c2_i32_30 : BitVec 32 := 2#32
  let v74 : BitVec 32 := Scalar.muli c2_i32_30 v39
  let v75 : BitVec 32 := Scalar.subi c3_i32_31 v74
  let v76 : BitVec 32 := Scalar.muli v56 v75
  let v77 : BitVec 32 := Scalar.addi v73 v76
  let c1_i32_303 : BitVec 32 := 1#32
  let v377 : BitVec 32 := Scalar.muli v77 c1_i32_303
  let v378 : BitVec 32 := Scalar.addi c0_i32_304 v377
  v378.toNat
def k0_off5 (d0 : Dev nD) (c0_i32_337 : BitVec 32) : Fin 2 → Nat :=
  let c4_i32_333 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v407 : BitVec 32 := Scalar.muli c4_i32_333 v19
  let c1_i32_331 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v405 : BitVec 32 := Scalar.subi c1_i32_331 v39
  let v408 : BitVec 32 := Scalar.addi v407 v405
  let c1_i32_332 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v406 : BitVec 32 := Scalar.subi c1_i32_332 v56
  let c3_i32_335 : BitVec 32 := 3#32
  let c2_i32_334 : BitVec 32 := 2#32
  let v409 : BitVec 32 := Scalar.muli c2_i32_334 v405
  let v410 : BitVec 32 := Scalar.subi c3_i32_335 v409
  let v411 : BitVec 32 := Scalar.muli v406 v410
  let v412 : BitVec 32 := Scalar.addi v408 v411
  let c512_i32_336 : BitVec 32 := 512#32
  let v413 : BitVec 32 := Scalar.muli v412 c512_i32_336
  let v414 : BitVec 32 := Scalar.addi v413 c0_i32_337
  let v421 : Index := Scalar.indexCast v414
  let c0_341 : Index := 0#32
  ![v421.toNat, 0]
def k0_off6 (d0 : Dev nD) (c256_i32_350 : BitVec 32) : Fin 2 → Nat :=
  let c4_i32_346 : BitVec 32 := 4#32
  let c1_i32_345 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v426 : BitVec 32 := Scalar.subi c1_i32_345 v19
  let v427 : BitVec 32 := Scalar.muli c4_i32_346 v426
  let c1_i32_344 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v425 : BitVec 32 := Scalar.subi c1_i32_344 v39
  let v428 : BitVec 32 := Scalar.addi v427 v425
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32_348 : BitVec 32 := 3#32
  let c2_i32_347 : BitVec 32 := 2#32
  let v429 : BitVec 32 := Scalar.muli c2_i32_347 v425
  let v430 : BitVec 32 := Scalar.subi c3_i32_348 v429
  let v431 : BitVec 32 := Scalar.muli v56 v430
  let v432 : BitVec 32 := Scalar.addi v428 v431
  let c512_i32_349 : BitVec 32 := 512#32
  let v433 : BitVec 32 := Scalar.muli v432 c512_i32_349
  let v434 : BitVec 32 := Scalar.addi v433 c256_i32_350
  let v441 : Index := Scalar.indexCast v434
  let c0_354 : Index := 0#32
  ![v441.toNat, 0]
def k0_dev17 (d0 : Dev nD) : Nat :=
  let c0_i32_384 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_22 v19
  let c1_i32_21 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v57 : BitVec 32 := Scalar.subi c1_i32_21 v39
  let v59 : BitVec 32 := Scalar.addi v58 v57
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let c3_i32 : BitVec 32 := 3#32
  let c2_i32_23 : BitVec 32 := 2#32
  let v60 : BitVec 32 := Scalar.muli c2_i32_23 v57
  let v61 : BitVec 32 := Scalar.subi c3_i32 v60
  let v62 : BitVec 32 := Scalar.muli v56 v61
  let v63 : BitVec 32 := Scalar.addi v59 v62
  let c1_i32_383 : BitVec 32 := 1#32
  let v471 : BitVec 32 := Scalar.muli v63 c1_i32_383
  let v472 : BitVec 32 := Scalar.addi c0_i32_384 v471
  v472.toNat
def k0_off7 (d0 : Dev nD) (c256_i32_418 : BitVec 32) : Fin 2 → Nat :=
  let c4_i32_414 : BitVec 32 := 4#32
  let c1_i32_413 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v500 : BitVec 32 := Scalar.subi c1_i32_413 v19
  let v501 : BitVec 32 := Scalar.muli c4_i32_414 v500
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v502 : BitVec 32 := Scalar.addi v501 v39
  let c1_i32_412 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v499 : BitVec 32 := Scalar.subi c1_i32_412 v56
  let c3_i32_416 : BitVec 32 := 3#32
  let c2_i32_415 : BitVec 32 := 2#32
  let v503 : BitVec 32 := Scalar.muli c2_i32_415 v39
  let v504 : BitVec 32 := Scalar.subi c3_i32_416 v503
  let v505 : BitVec 32 := Scalar.muli v499 v504
  let v506 : BitVec 32 := Scalar.addi v502 v505
  let c512_i32_417 : BitVec 32 := 512#32
  let v507 : BitVec 32 := Scalar.muli v506 c512_i32_417
  let v508 : BitVec 32 := Scalar.addi v507 c256_i32_418
  let v515 : Index := Scalar.indexCast v508
  let c0_422 : Index := 0#32
  ![v515.toNat, 0]
def k0_off8 (d0 : Dev nD) (c0_i32_479 : BitVec 32) : Fin 2 → Nat :=
  let c4_i32_475 : BitVec 32 := 4#32
  let c1_i32_474 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v577 : BitVec 32 := Scalar.subi c1_i32_474 v19
  let v578 : BitVec 32 := Scalar.muli c4_i32_475 v577
  let c1_i32_472 : BitVec 32 := 1#32
  let c4_i32_5 : BitVec 32 := 4#32
  let v20 : BitVec 32 := Scalar.remsi v2 c4_i32_5
  let c1_i32_6 : BitVec 32 := 1#32
  let v21 : BitVec 32 := Scalar.addi v20 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v575 : BitVec 32 := Scalar.subi c1_i32_472 v39
  let v579 : BitVec 32 := Scalar.addi v578 v575
  let c1_i32_473 : BitVec 32 := 1#32
  let c0_i32_15 : BitVec 32 := 0#32
  let v41 : BitVec 1 := Scalar.cmpi .sgt v20 c0_i32_15
  let v42 : BitVec 32 := Scalar.extui v41
  let c0_i32_16 : BitVec 32 := 0#32
  let v43 : BitVec 1 := Scalar.cmpi .slt v20 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v20 c2_i32_14
  let c0_i32_19 : BitVec 32 := 0#32
  let v53 : BitVec 1 := Scalar.cmpi .ne v52 c0_i32_19
  let v54 : BitVec 1 := Scalar.andi v51 v53
  let v40 : BitVec 32 := Scalar.divsi v20 c2_i32_14
  let c1_i32_20 : BitVec 32 := 1#32
  let v55 : BitVec 32 := Scalar.subi v40 c1_i32_20
  let v56 : BitVec 32 := Scalar.select v54 v55 v40
  let v576 : BitVec 32 := Scalar.subi c1_i32_473 v56
  let c3_i32_477 : BitVec 32 := 3#32
  let c2_i32_476 : BitVec 32 := 2#32
  let v580 : BitVec 32 := Scalar.muli c2_i32_476 v575
  let v581 : BitVec 32 := Scalar.subi c3_i32_477 v580
  let v582 : BitVec 32 := Scalar.muli v576 v581
  let v583 : BitVec 32 := Scalar.addi v579 v582
  let c512_i32_478 : BitVec 32 := 512#32
  let v584 : BitVec 32 := Scalar.muli v583 c512_i32_478
  let v585 : BitVec 32 := Scalar.addi v584 c0_i32_479
  let v592 : Index := Scalar.indexCast v585
  let c0_483 : Index := 0#32
  ![v592.toNat, 0]
abbrev stage0_0 : Fin 1 → Memref sig .tc .vmem S512x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Mesh.lean ====
/-
# The eight devices, the fourteen messages, and the order in which a device goes through them

Pure finite arithmetic: who is whose neighbour, which message forwards which, whose rows a message carries, and the
position of every message in the kernel's order of sends, of receive waits and of send waits. Everything here is
decided by going through the devices and the messages.
-/
module

public import proofs.«01_k».proof.Proof.Gen.KernelIdeal
public import Idealize.ShloMosaic.Lib.Decide

@[expose] public section

namespace Cert.Cube

open Idealize.ShloMosaic
open Cert.KernelIdeal (nD)

/-- The neighbour of a device along one of the cube's three directions. The kernel numbers the corners of a square face
    `0 1 2 3` around the face, the second face `4 5 6 7`. -/
def nb (d : Fin 3) (c : Dev nD) : Dev nD :=
  (![![1, 0, 3, 2, 5, 4, 7, 6], ![3, 2, 1, 0, 7, 6, 5, 4], ![4, 5, 6, 7, 0, 1, 2, 3]] : Fin 3 → Fin 8 → Fin 8) d c

/-- Going to a neighbour and along the same direction again comes back. -/
theorem nb_nb (d : Fin 3) (c : Dev nD) : nb d (nb d c) = c := by revert d c; decide

/-- A message: the half of the rows it carries (upper or lower) and its number among the seven of that half. -/
abbrev Msg : Type := Fin 2 × Fin 7

/-- The direction a message travels. The lower half uses the first and the third direction exchanged. -/
def dim (j : Msg) : Fin 3 :=
  (![![0, 1, 1, 2, 2, 2, 2], ![2, 1, 1, 0, 0, 0, 0]] : Fin 2 → Fin 7 → Fin 3) j.1 j.2

/-- The message of the same half that this one forwards, none where the sender's own rows are sent. -/
def src (i : Fin 7) : Option (Fin 7) :=
  (![none, none, some 0, none, some 0, some 1, some 2] : Fin 7 → Option (Fin 7)) i

/-- The forwarded message. -/
def parent (j : Msg) : Option Msg := (src j.2).map fun i => (j.1, i)

/-- The directions a message's rows have travelled. -/
def path (j : Msg) : List (Fin 3) :=
  (![![[0], [1], [1, 0], [2], [2, 0], [2, 1], [2, 1, 0]], ![[2], [1], [1, 2], [0], [0, 2], [0, 1], [0, 1, 2]]]
    : Fin 2 → Fin 7 → List (Fin 3)) j.1 j.2

/-- Whose rows a message brings to a device. -/
def org (j : Msg) (c : Dev nD) : Dev nD := (path j).foldl (fun e d => nb d e) c

/-- A message that forwards nothing brings the neighbour's own rows. -/
theorem org_root (j : Msg) (c : Dev nD) : parent j = none → org j c = nb (dim j) c := by revert j c; decide +kernel

/-- A message that forwards another brings what the neighbour got by that other. -/
theorem org_forward (j p : Msg) (c : Dev nD) : parent j = some p → org j c = org p (nb (dim j) c) := by
  revert j p c; decide +kernel

/-- Seen from the sender: the rows that a message carries off are those of the sender's neighbour's origin. -/
theorem org_root_nb (j : Msg) (c : Dev nD) (h : parent j = none) : org j (nb (dim j) c) = c := by
  rw [org_root j _ h, nb_nb]

/-- A forwarded message brings its receiver the rows that its sender received. -/
theorem org_forward_nb (j p : Msg) (c : Dev nD) (h : parent j = some p) : org j (nb (dim j) c) = org p c := by
  rw [org_forward j p _ h, nb_nb]

/-- Every device's rows of either half are the device's own or come by some message. -/
theorem org_cover (b : Fin 2) (c e : Dev nD) : e = c ∨ ∃ i, org (b, i) c = e := by
  revert b c e; decide +kernel

/-- A message brings rows that are not the receiver's own. -/
theorem org_ne (j : Msg) (c : Dev nD) : org j c ≠ c := by revert j c; decide +kernel

/-! ## The order of a device's work -/

/-- Position of a message among the sends. -/
def sidx (j : Msg) : ℕ := (![![0, 2, 6, 5, 7, 10, 12], ![1, 3, 8, 4, 9, 11, 13]] : Fin 2 → Fin 7 → ℕ) j.1 j.2
/-- Position of a message among the receive waits, and of its block among the products that follow them. -/
def ridx (j : Msg) : ℕ := (![![0, 2, 6, 5, 8, 11, 12], ![1, 3, 9, 4, 7, 10, 13]] : Fin 2 → Fin 7 → ℕ) j.1 j.2
/-- Position of a message among the send waits. -/
def widx (j : Msg) : ℕ := 2 * j.2.val + j.1.val

/-- There are fourteen sends. -/
theorem sidx_lt (j : Msg) : sidx j < 14 := by revert j; decide
/-- There are fourteen receive waits. -/
theorem ridx_lt (j : Msg) : ridx j < 14 := by revert j; decide
/-- There are fourteen send waits. -/
theorem widx_lt (j : Msg) : widx j < 14 := by revert j; decide
/-- No two messages are sent at the same position. -/
theorem sidx_inj (j k : Msg) : sidx j = sidx k → j = k := by revert j k; decide
/-- No two messages are waited for at the same position. -/
theorem ridx_inj (j k : Msg) : ridx j = ridx k → j = k := by revert j k; decide
/-- No two sends are waited for at the same position. -/
theorem widx_inj (j k : Msg) : widx j = widx k → j = k := by revert j k; decide

/-- How late a message may be waited for: a wait is only for a message of a smaller number than those still to be sent. -/
def rank (j : Msg) : ℕ := (![2, 2, 3, 2, 3, 3, 4] : Fin 7 → ℕ) j.2

/-- Every message comes after the barrier, whose number is 1. -/
theorem two_le_rank (j : Msg) : 2 ≤ rank j := by revert j; decide

/-- Message 0 is forwarded twice, as messages 2 and 4. -/
theorem children_0 (b : Fin 2) : (Finset.univ.filter fun k : Msg => parent k = some (b, 0)) = {(b, 2), (b, 4)} := by
  revert b; decide
/-- Message 1 is forwarded once, as message 5. -/
theorem children_1 (b : Fin 2) : (Finset.univ.filter fun k : Msg => parent k = some (b, 1)) = {(b, 5)} := by
  revert b; decide
/-- Message 2 is forwarded once, as message 6. -/
theorem children_2 (b : Fin 2) : (Finset.univ.filter fun k : Msg => parent k = some (b, 2)) = {(b, 6)} := by
  revert b; decide
/-- The later messages are not forwarded. -/
theorem children_late (b : Fin 2) (i : Fin 7) (h : 3 ≤ i.val) : (Finset.univ.filter fun k : Msg => parent k = some (b, i)) = ∅ := by
  revert b i; decide
/-- The messages that carry the sender's own rows. -/
theorem roots_eq : (Finset.univ.filter fun k : Msg => parent k = none)
    = {((0 : Fin 2), (0 : Fin 7)), (0, 1), (0, 3), (1, 0), (1, 1), (1, 3)} := by decide

end Cert.Cube
-- ==== Proof.Proto.lean ====
/-
# The protocol of the all-gather: buffers, contents, semaphore cells, and who owes what to whom

Fourteen messages of half a row block each travel along the cube. A device has 29 cells: the barrier, and for each
message a cell counting the device's send of it and a cell counting its arrival. The barrier cell has one duty per
direction: the neighbour along that direction hands over the slots of its own buffers into which this device will send
along it. An arrival's payload is the slot holding the rows of the message; a completed send's payload is the share of
the source that the transfer read.
-/
module

public import proofs.«01_k».proof.Proof.Mesh
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rounds of the kernel's own cells. -/
abbrev UB : Type := URounds (GSem nD τ sig) (Fin 3)
/-- The ghost state of the pipeline's cells and of the kernel's own. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The part of the kernel's own cells. -/
abbrev ER : Emb UB (MT nD τ sig Unit (Elt F) ℕ UU ℕ) := embR

/-- No loop needs a variant. -/
abbrev 𝒱₀ : Variants := Variants.none

variable (m : (ℓ : Loc nD τ sig) → Buf (Elt F) ℓ)

/-! ## Families over the messages -/

/-- A family over messages sorted by a label: each member goes to its own label. -/
theorem sep_by_label {M : Type} [URA M] {A B : Type} [Fintype A] [DecidableEq A] [Fintype B] (g : B → A) (Φ : B → sProp M) :
    bigSep Finset.univ (fun a : A => bigSep Finset.univ fun b : B => if g b = a then Φ b else iprop(emp)) = bigSep Finset.univ Φ := by
  rw [bigSep_univ_comm]
  refine bigSep_congr fun b _ => ?_
  rw [bigSep_univ_split (g b), if_pos rfl]
  exact (congrArg (BI.sep (Φ b)) ((bigSep_congr (Ψ := fun _ => (BI.emp : sProp M))
    fun a ha => if_neg (Finset.ne_of_mem_erase ha).symm).trans (bigSep_emp_const _))).trans (equiv_iff.mp sep_emp)

/-! ## Buffers -/

/-- The staged rows of `x`. -/
abbrev xM : Memref sig .tc .vmem S512x4096 .i8 := Memref.whole cc0_stg0_0
/-- The staged columns of `w_mat`. -/
abbrev wM : Memref sig .tc .vmem S4096x256 .i8 := Memref.whole cc0_stg1_0
/-- The staged scale of `x`. -/
abbrev sxM : Memref sig .tc .smem S1 .f32 := Memref.whole cc0_stg2_0
/-- The staged scale of `w_mat`. -/
abbrev swM : Memref sig .tc .smem S1 .f32 := Memref.whole cc0_stg3_0
/-- The result being written. -/
abbrev oM : Memref sig .tc .vmem S4096x256 .f32 := Memref.whole cc0_stg4_0

/-- The landing buffer of each half. -/
def bM : Fin 2 → Memref sig .tc .vmem S7x256x4096 .i8
  | 0 => Memref.whole cc0_scratch0
  | 1 => Memref.whole cc0_scratch1

/-- A slot lies within its landing buffer. -/
theorem slot_inb (i : Fin 7) : ∀ a, (![i.val, 0, 0] : Fin 3 → Nat) a + S1x256x4096.size a ≤ S7x256x4096.size a := by
  revert i; decide

/-- Slot `i` of a landing buffer. -/
abbrev slotR (i : Fin 7) : Rect S7x256x4096 := Rect.unit (s := S7x256x4096) ![i.val, 0, 0] S1x256x4096.size (slot_inb i)

/-- The slot of a message: one of the seven of its half's landing buffer, as a block of rows. -/
abbrev slotM (j : Msg) : Memref sig .tc .vmem S256x4096 .i8 :=
  ((bM j.1).slice (slotR j.2) (fun _ => rfl)).squeeze S256x4096 squeezes_S1x256x4096_S256x4096

/-- A half lies within the device's rows. -/
theorem half_inb (b : Fin 2) : ∀ a, (![256 * b.val, 0] : Fin 2 → Nat) a + S256x4096.size a ≤ S512x4096.size a := by
  revert b; decide

/-- The upper or lower half of the device's own rows. -/
abbrev xHalf (b : Fin 2) : Memref sig .tc .vmem S256x4096 .i8 :=
  xM.slice (Rect.unit (s := S512x4096) ![256 * b.val, 0] S256x4096.size (half_inb b)) (fun _ => rfl)

/-! ## Semaphores and cells -/

/-- The barrier's semaphore. -/
abbrev barS : Sem sig := sig.barrier 0 rfl
/-- The send semaphores are among the kernel's. -/
theorem sS_lt (j : Msg) : 5 + 14 * j.1.val + j.2.val < 33 := by omega
/-- The arrival semaphores are among the kernel's. -/
theorem rS_lt (j : Msg) : 12 + 14 * j.1.val + j.2.val < 33 := by omega
/-- The semaphore counting the device's send of a message. -/
def sS (j : Msg) : DmaSem sig := ⟨5 + 14 * j.1.val + j.2.val, sS_lt j⟩
/-- The semaphore counting the arrival of a message. -/
def rS (j : Msg) : DmaSem sig := ⟨12 + 14 * j.1.val + j.2.val, rS_lt j⟩

/-- A device's cells: the barrier, the sends, the arrivals. -/
abbrev CK : Type := Option (Bool × Msg)
/-- The semaphore of each cell. -/
def ksem : CK → SemLoc sig
  | none => .reg barS
  | some (false, j) => .dma (sS j)
  | some (true, j) => .dma (rS j)

/-- Which cell a semaphore is, by its number. -/
def kind : SemLoc sig → Option CK
  | .reg s => if s = barS then some none else none
  | .dma q => if 5 ≤ q.val then
      some (some (decide (7 ≤ (q.val - 5) % 14), (⟨(q.val - 5) / 14 % 2, Nat.mod_lt _ (by decide)⟩, ⟨(q.val - 5) % 7, Nat.mod_lt _ (by decide)⟩)))
    else none

/-- `kind` reads back which cell a semaphore was given to. -/
theorem kind_ksem (k : CK) : kind (ksem k) = some k := by revert k; decide

/-- Different cells have different semaphores. -/
theorem ksem_inj : Function.Injective ksem := fun a b h =>
  Option.some.inj ((kind_ksem a).symm.trans ((congrArg kind h).trans (kind_ksem b)))

/-- A device's barrier cell. -/
abbrev barCell (c : Dev nD) : GSem nD τ sig := ((c : Thread nD τ), .reg barS)
/-- A device's cell for its send of a message. -/
abbrev sCell (c : Dev nD) (j : Msg) : GSem nD τ sig := ((c : Thread nD τ), .dma (sS j))
/-- A device's cell for the arrival of a message. -/
abbrev rCell (c : Dev nD) (j : Msg) : GSem nD τ sig := ((c : Thread nD τ), .dma (rS j))
/-- A cell by its device and its kind. -/
abbrev kcell (ck : Dev nD × CK) : GSem nD τ sig := ((ck.1 : Thread nD τ), ksem ck.2)

/-- The barrier's kind. -/
theorem kind_bar : kind (.reg barS) = some none := kind_ksem none
/-- A send semaphore's kind. -/
theorem kind_s (j : Msg) : kind (.dma (sS j)) = some (some (false, j)) := kind_ksem (some (false, j))
/-- An arrival semaphore's kind. -/
theorem kind_r (j : Msg) : kind (.dma (rS j)) = some (some (true, j)) := kind_ksem (some (true, j))

/-- What a transfer of half a row block counts. -/
abbrev N : ℕ := (slotM (0, 0)).view.dmaCredit
/-- A message carries something. -/
theorem N_pos : 0 < N := View.dmaCredit_pos _ (by decide)
/-- A slot's transfer is worth a message. -/
theorem credit_slot (j : Msg) : (slotM j).view.dmaCredit = N := by
  obtain ⟨b, i⟩ := j
  match b with
  | 0 => rfl
  | 1 => rfl
/-- A half block's transfer is worth a message. -/
theorem credit_half (b : Fin 2) : (xHalf b).view.dmaCredit = N := rfl

/-! ## Contents -/

/-- The rows of the left operand a device holds, its columns of the right operand, and the two scales. -/
def xstg (c : Dev nD) : (cc0_stg0_0 : Ref sig .tc).ty.Contents (Elt F) :=
  (win0_0.blk (0 : Fin 1)).view.read (Elt F) (m ((c : Thread nD τ).loc main_arg0))
/-- The columns of `w_mat` that a device holds. -/
def wstg (c : Dev nD) : (cc0_stg1_0 : Ref sig .tc).ty.Contents (Elt F) :=
  (win0_1.blk (0 : Fin 1)).view.read (Elt F) (m ((c : Thread nD τ).loc main_arg1))
/-- The scale of `x` that a device holds. -/
def sxstg (c : Dev nD) : (cc0_stg2_0 : Ref sig .tc).ty.Contents (Elt F) :=
  (win0_2.blk (0 : Fin 1)).view.read (Elt F) (m ((c : Thread nD τ).loc main_arg2))
/-- The scale of `w_mat` that a device holds. -/
def swstg (c : Dev nD) : (cc0_stg3_0 : Ref sig .tc).ty.Contents (Elt F) :=
  (win0_3.blk (0 : Fin 1)).view.read (Elt F) (m ((c : Thread nD τ).loc main_arg3))

/-- Half of a device's rows. -/
def half (b : Fin 2) (e : Dev nD) : S256x4096.Idx → Elt F .i8 := (xHalf b).view.read (Elt F) (xstg m e)

/-- The rows that message `j` brings to device `c`. -/
def msgC (j : Msg) (c : Dev nD) : S256x4096.Idx → Elt F .i8 := half m j.1 (org j c)

/-- The landing buffer with those rows in the message's slot. -/
def slotC (j : Msg) (c : Dev nD) : Buf (Elt F) ((slotM j).view.loc (c : Thread nD τ)) :=
  (slotM j).view.write (Elt F) (m ((slotM j).view.loc (c : Thread nD τ))) (msgC m j c) Finset.univ

omit [FloatOps F] in
/-- Reading a slot with its message in it gives the message. -/
theorem read_slotC (j : Msg) (c : Dev nD) : (slotM j).view.read (Elt F) (slotC m j c) = msgC m j c := by
  unfold slotC; rw [View.read_write_univ]

/-- The slot of a message at its contents, held at share `q`. -/
def slotPts (j : Msg) (q : PosShare TreeShare) (c : Dev nD) : sProp 𝕄 :=
  (slotM j).view.loc (c : Thread nD τ) ↦[(slotM j).view.set]{q} slotC m j c
/-- The slot of a message, holding anything. -/
def slotAny (j : Msg) (c : Dev nD) : sProp 𝕄 :=
  iprop(∃ f : Buf (Elt F) ((slotM j).view.loc (c : Thread nD τ)), (slotM j).view.loc (c : Thread nD τ) ↦[(slotM j).view.set]{fullShare} f)

omit [FloatOps F] in
/-- A slot into which the message's rows were written is the slot at its contents, whatever it held. -/
theorem slot_landed (j : Msg) (c : Dev nD) (f : Buf (Elt F) ((slotM j).view.loc (c : Thread nD τ))) (w : S256x4096.Idx → Elt F .i8) (hw : w = msgC m j c) :
    ((slotM j).view.loc (c : Thread nD τ) ↦[(slotM j).view.set]{fullShare} (slotM j).view.write (Elt F) f w Finset.univ : sProp 𝕄)
      = slotPts m j fullShare c := by
  subst hw
  unfold slotPts slotC
  refine pointsTo_congr fun i hi => ?_
  obtain ⟨y, -, rfl⟩ := Finset.mem_map.mp hi
  rw [View.write_emb_of_mem _ _ (Finset.mem_univ y), View.write_emb_of_mem _ _ (Finset.mem_univ y)]

/-- The share of its source at which a message is sent. -/
def shr (j : Msg) : PosShare TreeShare :=
  (![fullShare.left.left, fullShare.left.right.left, fullShare.left.left, fullShare.left.right.right, fullShare.left.right,
    fullShare.left, fullShare.left] : Fin 7 → PosShare TreeShare) j.2
/-- The share of a slot kept for reading it: all of it where no message forwards it. -/
def keep (j : Msg) : PosShare TreeShare := if j.2.val < 3 then fullShare.right else fullShare

/-- What message `j` is sent from: half of the device's own rows, or the slot of the message it forwards. -/
def srcPts (j : Msg) (c : Dev nD) : sProp 𝕄 :=
  match parent j with
  | none => (xHalf j.1).view.loc (c : Thread nD τ) ↦[(xHalf j.1).view.set]{shr j} xstg m c
  | some p => slotPts m p (shr j) c

omit [FloatOps F] in
/-- A filled slot may be put into a cell. -/
instance slotPts_storable (j : Msg) (q) (c : Dev nD) : BI.Storable (upEmb : UEmb _ 𝕄) (slotPts m j q c) := by unfold slotPts; infer_instance
omit [FloatOps F] in
/-- A slot with any contents may be put into a cell. -/
instance slotAny_storable (j : Msg) (c : Dev nD) : BI.Storable (upEmb : UEmb _ 𝕄) (slotAny (F := F) j c) := by unfold slotAny; infer_instance
omit [FloatOps F] in
/-- A message's source may be put into a cell. -/
instance srcPts_storable (j : Msg) (c : Dev nD) : BI.Storable (upEmb : UEmb _ 𝕄) (srcPts m j c) := by
  unfold srcPts; split <;> infer_instance

/-! ## The schedule -/

/-- What the neighbour along `d` hands over at the barrier: its slots of the messages this device sends along `d`. -/
def barPay (d : Fin 3) (c : Dev nD) : sProp 𝕄 :=
  bigSep Finset.univ fun k : Msg => if dim k = d then slotAny (F := F) k (nb d c) else iprop(emp)

omit [FloatOps F] in
/-- What the barrier hands over may be put into a cell. -/
instance barPay_storable (d : Fin 3) (c : Dev nD) : BI.Storable (upEmb : UEmb _ 𝕄) (barPay (F := F) d c) := by
  unfold barPay
  have (k : Msg) : BI.Storable (upEmb : UEmb _ 𝕄) (if dim k = d then slotAny (F := F) k (nb d c) else iprop(emp)) := by
    split <;> infer_instance
  infer_instance

/-- The schedule: each cell has one round, the barrier's of three units and each other cell's of one message. -/
def Rd : Rounds.Schedule (GSem nD τ sig) (Fin 3) 𝕄 where
  duties g r := if r = 0 ∧ g.1.2 = .tc then
      (match kind g.2 with | some none => Finset.univ | some (some _) => {0} | none => ∅) else ∅
  unitless _ := False
  amount g _ _ := match kind g.2 with | some none => 1 | _ => N
  payload g _ d := match kind g.2 with
    | some none => barPay d g.1.1
    | some (some (false, j)) => srcPts m j g.1.1
    | some (some (true, j)) => slotPts m j fullShare g.1.1
    | none => iprop(emp)
  amount_pos g _ _ _ := by
    split
    · exact Nat.one_pos
    · exact N_pos

/-- Every payload of the schedule may be put into a cell. -/
instance Rd_storable (g : GSem nD τ sig) (r : ℕ) (d : Fin 3) : BI.Storable (upEmb : UEmb _ 𝕄) ((Rd (F := F) m).payload g r d) := by
  unfold Rd; dsimp only
  split <;> infer_instance

section Sched
variable (c : Dev nD) (j : Msg) (d : Fin 3)

omit [FloatOps F] in
/-- The barrier's duties: one per direction. -/
theorem duties_bar : (Rd (F := F) m).duties (barCell c) 0 = Finset.univ := by
  dsimp only [Rd]; rw [if_pos ⟨rfl, rfl⟩, kind_bar]
omit [FloatOps F] in
/-- A send cell has one duty. -/
theorem duties_s : (Rd (F := F) m).duties (sCell c j) 0 = {0} := by dsimp only [Rd]; rw [if_pos ⟨rfl, rfl⟩, kind_s]
omit [FloatOps F] in
/-- An arrival cell has one duty. -/
theorem duties_r : (Rd (F := F) m).duties (rCell c j) 0 = {0} := by dsimp only [Rd]; rw [if_pos ⟨rfl, rfl⟩, kind_r]
omit [FloatOps F] in
/-- There is one round only. -/
theorem duties_later (g : GSem nD τ sig) : ∀ r, 1 ≤ r → (Rd (F := F) m).duties g r = ∅ :=
  fun r hr => by dsimp only [Rd]; exact if_neg fun h => by omega
omit [FloatOps F] in
/-- Each signal at the barrier is one unit. -/
theorem amount_bar : (Rd (F := F) m).amount (barCell c) 0 d = 1 := by dsimp only [Rd]; rw [kind_bar]
omit [FloatOps F] in
/-- A completed send is one message. -/
theorem amount_s : (Rd (F := F) m).amount (sCell c j) 0 d = N := by dsimp only [Rd]; rw [kind_s]
omit [FloatOps F] in
/-- An arrival is one message. -/
theorem amount_r : (Rd (F := F) m).amount (rCell c j) 0 d = N := by dsimp only [Rd]; rw [kind_r]
omit [FloatOps F] in
/-- The barrier waits for three units. -/
theorem expect_bar : (Rd (F := F) m).expect (barCell c) 0 = 3 := by
  unfold Schedule.expect Schedule.amountOf
  rw [duties_bar, Finset.sum_congr rfl fun d _ => amount_bar m c d]; rfl
omit [FloatOps F] in
/-- A wait for a send is for one message. -/
theorem expect_s : (Rd (F := F) m).expect (sCell c j) 0 = N := by
  unfold Schedule.expect Schedule.amountOf; rw [duties_s, Finset.sum_singleton, amount_s]
omit [FloatOps F] in
/-- A wait for an arrival is for one message. -/
theorem expect_r : (Rd (F := F) m).expect (rCell c j) 0 = N := by
  unfold Schedule.expect Schedule.amountOf; rw [duties_r, Finset.sum_singleton, amount_r]
omit [FloatOps F] in
/-- The barrier hands over a neighbour's slots. -/
theorem payload_bar : (Rd (F := F) m).payload (barCell c) 0 d = barPay d c := by dsimp only [Rd]; rw [kind_bar]
omit [FloatOps F] in
/-- A completed send hands back its source. -/
theorem payload_s : (Rd (F := F) m).payload (sCell c j) 0 d = srcPts m j c := by dsimp only [Rd]; rw [kind_s]
omit [FloatOps F] in
/-- An arrival hands over the filled slot. -/
theorem payload_r : (Rd (F := F) m).payload (rCell c j) 0 d = slotPts m j fullShare c := by dsimp only [Rd]; rw [kind_r]

omit [FloatOps F] in
/-- At the barrier a device gets the slots of its neighbours into which it will send. -/
theorem rest_bar : bigSep ((Rd (F := F) m).duties (barCell c) 0 \ ∅) (fun d => (Rd (F := F) m).payload (barCell c) 0 d)
    = bigSep Finset.univ fun k : Msg => slotAny (F := F) k (nb (dim k) c) := by
  rw [Finset.sdiff_empty, duties_bar, bigSep_congr fun d _ => payload_bar m c d]
  unfold barPay
  rw [← sep_by_label dim]
  exact bigSep_congr fun d _ => bigSep_congr fun k _ => by
    split
    · rename_i h; rw [h]
    · rfl
omit [FloatOps F] in
/-- A wait for a send takes all that its cell holds: the source. -/
theorem rest_s : bigSep ((Rd (F := F) m).duties (sCell c j) 0 \ ∅) (fun d => (Rd (F := F) m).payload (sCell c j) 0 d) = srcPts m j c := by
  rw [Finset.sdiff_empty, duties_s, bigSep_singleton, payload_s]
omit [FloatOps F] in
/-- A wait for an arrival takes all that its cell holds: the filled slot. -/
theorem rest_r : bigSep ((Rd (F := F) m).duties (rCell c j) 0 \ ∅) (fun d => (Rd (F := F) m).payload (rCell c j) 0 d) = slotPts m j fullShare c := by
  rw [Finset.sdiff_empty, duties_r, bigSep_singleton, payload_r]

end Sched

omit [FloatOps F] in
/-- A device's own slots are what it hands over along the three directions. -/
theorem give_slots (c : Dev nD) : bigSep Finset.univ (fun k : Msg => slotAny (F := F) k c)
    = bigSep Finset.univ fun d : Fin 3 => barPay (F := F) d (nb d c) := by
  rw [← sep_by_label dim]
  refine bigSep_congr fun d _ => ?_
  unfold barPay; rw [nb_nb]

/-! ## Tallies and levels -/

/-- The arrivals a device still owes its neighbours once it has sent the first `n` messages. -/
def Ow (c : Dev nD) (n : ℕ) : CellTallies nD τ sig Unit :=
  ∑ j : Msg, if sidx j < n then 0 else tallyAt (rCell (nb (dim j) c) j) () N

/-- Sending the next message pays for its arrival. -/
theorem Ow_step (c : Dev nD) (j : Msg) : Ow c (sidx j) = Ow c (sidx j + 1) + tallyAt (rCell (nb (dim j) c) j) () N := by
  unfold Ow
  rw [← Finset.add_sum_erase _ _ (Finset.mem_univ j), ← Finset.add_sum_erase (a := j) Finset.univ (fun k => if sidx k < sidx j + 1 then _ else _) (Finset.mem_univ j),
    if_neg (Nat.lt_irrefl _), if_pos (Nat.lt_succ_self _), zero_add, add_comm]
  congr 1
  refine Finset.sum_congr rfl fun k hk => ?_
  have hne : sidx k ≠ sidx j := fun h => Finset.ne_of_mem_erase hk (sidx_inj k j h)
  by_cases h : sidx k < sidx j
  · rw [if_pos h, if_pos (by omega)]
  · rw [if_neg h, if_neg (by omega)]

/-- After the last send nothing is owed. -/
theorem Ow_all (c : Dev nD) (n : ℕ) (h : 14 ≤ n) : Ow c n = 0 := by
  unfold Ow
  exact Finset.sum_eq_zero fun j _ => if_pos (lt_of_lt_of_le (sidx_lt j) h)

/-- What is still owed are arrivals of messages not yet sent. -/
theorem Ow_pos {c : Dev nD} {n : ℕ} {g : GSem nD τ sig} {u : Unit} (h : 0 < Ow c n g u) :
    ∃ k, n ≤ sidx k ∧ g = rCell (nb (dim k) c) k := by
  unfold Ow at h
  rw [Finset.sum_apply, Finsupp.finset_sum_apply] at h
  obtain ⟨k, -, hk⟩ := Finset.exists_ne_zero_of_sum_ne_zero (Nat.pos_iff_ne_zero.mp h)
  refine ⟨k, ?_, ?_⟩
  · by_contra hn
    rw [if_pos (by omega)] at hk; exact hk rfl
  · by_contra hn
    split at hk
    · exact hk rfl
    · rw [tallyAt_apply, if_neg fun h' => hn h'.1] at hk; exact hk rfl

/-- Before the barrier a device also owes each neighbour a unit. -/
def Obar (c : Dev nD) : ℕ → CellTallies nD τ sig Unit
  | 0 => Ow c 0
  | n + 1 => Obar c n + tallyAt (barCell (nb (Fin.ofNat 3 (2 - n)) c)) () 1

/-- What a device owes at the start. -/
def O₀ (c : Dev nD) : CellTallies nD τ sig Unit := Obar c 3

/-- What a device owes at the start are arrivals and units at the barrier. -/
theorem O₀_pos {c : Dev nD} {g : GSem nD τ sig} {u : Unit} (h : 0 < O₀ c g u) :
    (∃ k, g = rCell (nb (dim k) c) k) ∨ ∃ d, g = barCell (nb d c) := by
  by_contra hn
  rw [not_or] at hn
  have h0 : Ow c 0 g u = 0 := by
    by_contra h0
    obtain ⟨k, -, hk⟩ := Ow_pos (Nat.pos_iff_ne_zero.mpr h0)
    exact hn.1 ⟨k, hk⟩
  have hb : ∀ d, tallyAt (barCell (nb d c)) () 1 g u = 0 := fun d => by
    rw [tallyAt_apply, if_neg fun h' => hn.2 ⟨d, h'.1⟩]
  unfold O₀ Obar Obar Obar Obar at h
  simp only [Pi.add_apply, Finsupp.add_apply, h0, hb, Nat.add_zero, Nat.lt_irrefl] at h

/-- The only label of each cell of a tensor core. -/
def L (g : GSem nD τ sig) : Finset Unit := if g.1.2 = .tc then {()} else ∅
/-- A cell's level: the barrier first, then the arrivals by rank; a wait for a send waits on nobody's debt. -/
def lv (g : GSem nD τ sig) (_ : Unit) : ℕ := match kind g.2 with | some none => 1 | some (some (true, j)) => rank j | _ => 0

/-- Other cores have no labels. -/
theorem L_of_ne (g : GSem nD τ sig) (h : g.1.2 ≠ .tc) : L g = ∅ := if_neg h
/-- A tensor core's cell has the one label. -/
theorem L_tc (c : Dev nD) (sm : SemLoc sig) : L ((c : Thread nD τ), sm) = {()} := if_pos rfl
/-- The barrier's level. -/
theorem lv_bar (c : Dev nD) (u : Unit) : lv (barCell c) u = 1 := by unfold lv; rw [kind_bar]
/-- An arrival's level. -/
theorem lv_r (c : Dev nD) (j : Msg) (u : Unit) : lv (rCell c j) u = rank j := by unfold lv; rw [kind_r]
/-- A send's level. -/
theorem lv_s (c : Dev nD) (j : Msg) (u : Unit) : lv (sCell c j) u = 0 := by unfold lv; rw [kind_s]

omit [FloatOps F] in
/-- A wait is allowed while the arrivals still owed are all of a larger level than the awaited cell. -/
theorem mayWait_of (c : Dev nD) (sm : SemLoc sig) (n : ℕ) (h : ∀ k, n ≤ sidx k → lv ((c : Thread nD τ), sm) () < rank k) :
    (levAts L lv : sProp 𝕄) ⊢ MayWait (c : Thread nD τ) sm () (Ow c n) :=
  MayOwe.of_cut (L := L) (lev := lv) (lv ((c : Thread nD τ), sm) ())
    (fun p hp => by rw [Finset.mem_singleton.mp hp, L_tc]; exact Finset.mem_singleton_self _)
    (fun g u hg => by obtain ⟨k, -, rfl⟩ := Ow_pos hg; exact Finset.mem_singleton_self _)
    (fun p hp => by rw [Finset.mem_singleton.mp hp])
    (fun g u hg => by obtain ⟨k, hk, rfl⟩ := Ow_pos hg; rw [lv_r]; exact h k hk)

omit [FloatOps F] in
/-- The windows' transfers may be waited for whatever is owed at launch. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> exact Finset.mem_singleton_self _)
      (fun p hp => by rw [Finset.mem_singleton.mp hp]; dsimp only [lv]; rw [hq])
      (fun g u hg => by
        rcases O₀_pos hg with ⟨k, rfl⟩ | ⟨d, rfl⟩
        · rw [lv_r]; exact lt_of_lt_of_le (by decide) (two_le_rank k)
        · rw [lv_bar]; decide)
  · rw [MayWait_zero]; iintro -; iempintro

end Cert.Cube
-- ==== Proof.Slots.lean ====
/-
# Buffers cut into slots, and shares of them

The two landing buffers are the fourteen slots. A slot that later messages forward is held in parts: a share to read it
from, and one for each forwarding transfer. The device's own rows likewise.
-/
module

public import proofs.«01_k».proof.Proof.Proto

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ UU ℕ

variable (m : (ℓ : Loc nD τ sig) → Buf (Elt F) ℓ)

omit [FloatOps F] in
/-- Entailment both ways is equality. -/
theorem eq_of_both {P Q : sProp 𝕄} (h : P ⊣⊢ Q) : P = Q := BI.Entails.antisymm h.1 h.2

omit [FloatOps F] in
/-- Two triples of conjuncts as one list. -/
theorem three_three (A B C D E G : sProp 𝕄) : iprop((A ∗ B ∗ C) ∗ D ∗ E ∗ G) = iprop(A ∗ B ∗ C ∗ D ∗ E ∗ G) :=
  eq_of_both ⟨by iintro ⟨⟨H1, H2, H3⟩, H4, H5, H6⟩; iframe, by iintro ⟨H1, H2, H3, H4, H5, H6⟩; iframe⟩

/-! ## Slots -/

/-- The elements of a slot within its buffer. -/
theorem slot_set (b : Fin 2) (i : Fin 7) : (slotM (b, i)).view.set = (slotR i).set.map (bM b).view.emb := by
  show (((bM b).view.slice (slotR i)).reshape S256x4096 _).set = _
  rw [View.set_reshape, View.set_slice]

/-- Different slots share no element. -/
theorem slot_disjoint (b : Fin 2) (i i' : Fin 7) (h : i ≠ i') : Disjoint (slotM (b, i)).view.set (slotM (b, i')).view.set := by
  rw [slot_set, slot_set, Finset.disjoint_map, Finset.disjoint_left]
  intro y h1 h2
  have h1 := Rect.mem_set_unit.mp h1 0
  have h2 := Rect.mem_set_unit.mp h2 0
  have e1 : (![i.val, 0, 0] : Fin 3 → ℕ) 0 = i.val := rfl
  have e2 : (![i'.val, 0, 0] : Fin 3 → ℕ) 0 = i'.val := rfl
  have e3 : S1x256x4096.size 0 = 1 := rfl
  exact h (Fin.ext (by omega))

/-- Seven slots are their whole buffer. -/
theorem slots_cover (b : Fin 2) : Finset.biUnion (β := (bM b).view.ty.Idx) Finset.univ (fun i : Fin 7 => (slotM (b, i)).view.set) = Finset.univ := by
  have hb : (bM b).view.set = Finset.univ := by
    match b with
    | 0 => exact View.set_whole _
    | 1 => exact View.set_whole _
  refine Finset.eq_univ_of_forall fun x => ?_
  obtain ⟨y, -, rfl⟩ := Finset.mem_map.mp (hb.symm ▸ Finset.mem_univ x : x ∈ (bM b).view.set)
  refine Finset.mem_biUnion.mpr ⟨⟨(y 0).val, (y 0).isLt⟩, Finset.mem_univ _, ?_⟩
  rw [slot_set]
  refine Finset.mem_map_of_mem _ (Rect.mem_set_unit.mpr fun a => ?_)
  match a with
  | 0 => exact ⟨le_refl _, Nat.lt_succ_self _⟩
  | 1 => exact ⟨Nat.zero_le _, by have := (y 1).isLt; exact lt_of_lt_of_eq this (Nat.zero_add _).symm⟩
  | 2 => exact ⟨Nat.zero_le _, by have := (y 2).isLt; exact lt_of_lt_of_eq this (Nat.zero_add _).symm⟩

omit [FloatOps F] in
/-- A landing buffer held whole is its seven slots. -/
theorem buf_split (b : Fin 2) (c : Dev nD) :
    (iprop(∃ f : Buf (Elt F) ((bM b).view.loc (c : Thread nD τ)), (bM b).view.loc (c : Thread nD τ) ↦{fullShare} f) : sProp 𝕄)
      ⊢ bigSep Finset.univ fun i : Fin 7 => slotAny (F := F) (b, i) c := by
  have h (f : Buf (Elt F) ((bM b).view.loc (c : Thread nD τ))) : ((bM b).view.loc (c : Thread nD τ) ↦{fullShare} f : sProp 𝕄)
      ⊢ bigSep Finset.univ fun i : Fin 7 => slotAny (F := F) (b, i) c := by
    rw [pointsTo_blocks (ℓ := (bM b).view.loc (c : Thread nD τ)) (fun i : Fin 7 => (slotM (b, i)).view.set) (slot_disjoint b) (slots_cover b) f]
    have hi (i : Fin 7) : ((bM b).view.loc (c : Thread nD τ) ↦[(slotM (b, i)).view.set]{fullShare} f : sProp 𝕄) ⊢ slotAny (F := F) (b, i) c := by
      unfold slotAny; iintro H; iexists f; iexact H
    exact bigSep_mono fun i _ => hi i
  iintro ⟨%f, H⟩
  iapply (h f); iexact H

omit [FloatOps F] in
/-- Seven slots, each with any contents, make a landing buffer. -/
theorem buf_join (b : Fin 2) (c : Dev nD) (f₀ : Buf (Elt F) ((bM b).view.loc (c : Thread nD τ))) :
    (bigSep Finset.univ fun i : Fin 7 => slotAny (F := F) (b, i) c)
      ⊢ (iprop(∃ f : Buf (Elt F) ((bM b).view.loc (c : Thread nD τ)), (bM b).view.loc (c : Thread nD τ) ↦{fullShare} f) : sProp 𝕄) :=
  pointsTo_blocks_join_exists (ℓ := (bM b).view.loc (c : Thread nD τ)) (fun i : Fin 7 => (slotM (b, i)).view.set) (slot_disjoint b) (slots_cover b) f₀

omit [FloatOps F] in
/-- The fourteen slots are the two landing buffers. -/
theorem slots_of_bufs (c : Dev nD) :
    (iprop((∃ f, ((c : Thread nD τ).loc cc0_scratch0) ↦{fullShare} f) ∗ (∃ f, ((c : Thread nD τ).loc cc0_scratch1) ↦{fullShare} f)) : sProp 𝕄)
      ⊢ bigSep Finset.univ fun k : Msg => slotAny (F := F) k c := by
  rw [bigSep_univ_prod, bigSep_fin_two]
  exact BI.sep_mono (buf_split 0 c) (buf_split 1 c)

include m in
omit [FloatOps F] in
/-- The two landing buffers are the fourteen slots put together. -/
theorem bufs_of_slots (c : Dev nD) :
    (bigSep Finset.univ fun k : Msg => slotAny (F := F) k c)
      ⊢ (iprop((∃ f, ((c : Thread nD τ).loc cc0_scratch0) ↦{fullShare} f) ∗ (∃ f, ((c : Thread nD τ).loc cc0_scratch1) ↦{fullShare} f)) : sProp 𝕄) := by
  rw [bigSep_univ_prod, bigSep_fin_two]
  exact BI.sep_mono (buf_join 0 c (m _)) (buf_join 1 c (m _))

/-! ## Shares -/

omit [FloatOps F] in
/-- Any points-to is its two half shares. -/
theorem halves {ℓ : Loc nD τ sig} (I : Finset (Idx ℓ)) (q : PosShare TreeShare) (f : Buf (Elt F) ℓ) :
    (ℓ ↦[I]{q} f : sProp 𝕄) = iprop((ℓ ↦[I]{q.left} f) ∗ (ℓ ↦[I]{q.right} f)) :=
  eq_of_both (pointsTo_share (PosShare.mem_left_op_right q))

omit [FloatOps F] in
/-- A share of a filled slot is its two halves. -/
theorem slot_halves (j : Msg) (q : PosShare TreeShare) (c : Dev nD) :
    slotPts m j q c = iprop(slotPts m j q.left c ∗ slotPts m j q.right c) := halves _ q _

/-- What the messages forwarding `j` are sent from; of all the messages that forward nothing for `none`. -/
def fwd (o : Option Msg) (c : Dev nD) : sProp 𝕄 :=
  bigSep Finset.univ fun k : Msg => if parent k = o then srcPts m k c else iprop(emp)

omit [FloatOps F] in
/-- The same, over only the messages that forward `o`. -/
theorem fwd_filter (o : Option Msg) (c : Dev nD) :
    fwd m o c = bigSep (Finset.univ.filter fun k : Msg => parent k = o) fun k => srcPts m k c :=
  (bigSep_filter Finset.univ (fun k : Msg => parent k = o) fun k => srcPts m k c).symm

omit [FloatOps F] in
/-- A forwarded message is sent from the slot of the message it forwards. -/
theorem srcPts_forward (b : Fin 2) (i p : Fin 7) (h : src i = some p) (c : Dev nD) :
    srcPts m (b, i) c = slotPts m (b, p) (shr (b, i)) c := by
  unfold srcPts parent; dsimp only; rw [h]; rfl
omit [FloatOps F] in
/-- A message of the sender's own rows is sent from half of them. -/
theorem srcPts_root (b : Fin 2) (i : Fin 7) (h : src i = none) (c : Dev nD) :
    srcPts m (b, i) c = ((xHalf b).view.loc (c : Thread nD τ) ↦[(xHalf b).view.set]{shr (b, i)} xstg m c : sProp 𝕄) := by
  unfold srcPts parent; dsimp only; rw [h]; rfl

omit [FloatOps F] in
/-- A landed slot is the share kept to read it and the sources of the messages that forward it. -/
theorem slot_open (j : Msg) (c : Dev nD) : slotPts m j fullShare c = iprop(slotPts m j (keep j) c ∗ fwd m (some j) c) := by
  obtain ⟨b, i⟩ := j
  rw [fwd_filter]
  by_cases h : 3 ≤ i.val
  · rw [children_late b i h, bigSep_empty]
    have hk : keep (b, i) = fullShare := if_neg (by dsimp only; omega)
    rw [hk]
    exact (equiv_iff.mp sep_emp).symm
  · rw [slot_halves]
    have hk : keep (b, i) = fullShare.right := if_pos (by dsimp only; omega)
    rw [hk]
    have hc : slotPts m (b, i) fullShare.left c = bigSep (Finset.univ.filter fun k : Msg => parent k = some (b, i)) fun k => srcPts m k c := by
      match i, h with
      | 0, _ =>
        rw [children_0, bigSep_insert (by simp), bigSep_singleton, srcPts_forward m b 2 0 rfl, srcPts_forward m b 4 0 rfl, slot_halves]; rfl
      | 1, _ => rw [children_1, bigSep_singleton, srcPts_forward m b 5 1 rfl]; rfl
      | 2, _ => rw [children_2, bigSep_singleton, srcPts_forward m b 6 2 rfl]; rfl
    rw [← hc]
    exact eq_of_both Laws.sep_comm

/-- The elements of a half of the device's rows. -/
theorem half_set (b : Fin 2) : (xHalf b).view.set = (Rect.unit (s := S512x4096) ![256 * b.val, 0] S256x4096.size (half_inb b)).set :=
  View.set_slice_whole _ _

/-- The two halves share no element. -/
theorem half_disjoint (b b' : Fin 2) (h : b ≠ b') : Disjoint (xHalf b).view.set (xHalf b').view.set := by
  rw [half_set, half_set, Finset.disjoint_left]
  intro y h1 h2
  have h1 := Rect.mem_set_unit.mp h1 0
  have h2 := Rect.mem_set_unit.mp h2 0
  have e1 : (![256 * b.val, 0] : Fin 2 → ℕ) 0 = 256 * b.val := rfl
  have e2 : (![256 * b'.val, 0] : Fin 2 → ℕ) 0 = 256 * b'.val := rfl
  have e3 : S256x4096.size 0 = 256 := rfl
  exact h (Fin.ext (by omega))

/-- The two halves are all of the device's rows. -/
theorem half_cover : Finset.biUnion (β := S512x4096.Idx) Finset.univ (fun b : Fin 2 => (xHalf b).view.set) = Finset.univ := by
  refine Finset.eq_univ_of_forall fun y => ?_
  have h0 : (y 0).val < 512 := (y 0).isLt
  refine Finset.mem_biUnion.mpr ⟨⟨(y 0).val / 256, by omega⟩, Finset.mem_univ _, ?_⟩
  rw [half_set]
  refine Rect.mem_set_unit.mpr fun a => ?_
  match a with
  | 0 =>
    show 256 * ((y 0).val / 256) ≤ (y 0).val ∧ (y 0).val < 256 * ((y 0).val / 256) + 256
    omega
  | 1 => exact ⟨Nat.zero_le _, by have := (y 1).isLt; exact lt_of_lt_of_eq this (Nat.zero_add _).symm⟩

omit [FloatOps F] in
/-- The device's own rows are the share kept to read them and the sources of the messages that carry them. -/
theorem x_open (c : Dev nD) : (((c : Thread nD τ).loc cc0_stg0_0) ↦{fullShare} xstg m c : sProp 𝕄)
    = iprop((((c : Thread nD τ).loc cc0_stg0_0) ↦{fullShare.right} xstg m c) ∗ fwd m none c) := by
  rw [halves, fwd_filter, roots_eq, eq_of_both (Laws.sep_comm (P := ((c : Thread nD τ).loc cc0_stg0_0) ↦{fullShare.left} xstg m c))]
  congr 1
  rw [pointsTo_blocks (ℓ := (c : Thread nD τ).loc cc0_stg0_0) (fun b : Fin 2 => (xHalf b).view.set) half_disjoint half_cover, bigSep_fin_two]
  have hb (b : Fin 2) : (((c : Thread nD τ).loc cc0_stg0_0) ↦[(xHalf b).view.set]{fullShare.left} xstg m c : sProp 𝕄)
      = iprop(srcPts m (b, 0) c ∗ srcPts m (b, 1) c ∗ srcPts m (b, 3) c) := by
    rw [srcPts_root m b 0 rfl, srcPts_root m b 1 rfl, srcPts_root m b 3 rfl, halves, halves (q := fullShare.left.right)]; rfl
  rw [hb 0, hb 1, bigSep_insert (by decide), bigSep_insert (by decide), bigSep_insert (by decide), bigSep_insert (by decide),
    bigSep_insert (by decide), bigSep_singleton]
  exact three_three _ _ _ _ _ _

omit [FloatOps F] in
/-- All the sources together, sorted by what they are shares of. -/
theorem fwd_all (c : Dev nD) : (bigSep Finset.univ fun k : Msg => srcPts m k c)
    = iprop(fwd m none c ∗ bigSep Finset.univ fun j : Msg => fwd m (some j) c) := by
  rw [← sep_by_label parent, bigSep_univ_split none]
  unfold fwd
  congr 1

end Cert.Cube
-- ==== Proof.Steps.lean ====
/-
# The state of a device between two operations, and what each operation does to it

A device's state is told by four numbers: how many messages it has sent, how many arrivals and how many completed sends
it has waited for. From them follow, message by message, which tokens, credits, positions and buffer shares it holds.
Each kind of operation is proved once, for every message.
-/
module

public import proofs.«01_k».proof.Proof.Slots

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## Records -/

/-- What everybody knows of the cells: their invariants, and that their first round has begun. -/
def records : sProp 𝕄 :=
  iprop((bigSep Finset.univ fun ck : Dev nD × CK => cellInv ER (Rd (F := F) m) (K ck) (kcell ck))
    ∗ bigSep Finset.univ fun ck : Dev nD × CK => reached ER (kcell ck) 0)
omit [FloatOps F] in
/-- Records may be used any number of times. -/
instance records_persistent : BI.Persistent (records (F := F) m K) := by unfold records; infer_instance

omit [FloatOps F] in
/-- The invariant of any one cell. -/
theorem rec_inv (ck : Dev nD × CK) : records (F := F) m K ⊢ cellInv ER (Rd (F := F) m) (K ck) (kcell ck) := by
  have h : (bigSep Finset.univ fun ck : Dev nD × CK => (cellInv ER (Rd (F := F) m) (K ck) (kcell ck) : sProp 𝕄)) ⊢ cellInv ER (Rd (F := F) m) (K ck) (kcell ck) :=
    bigSep_elim (Finset.mem_univ ck)
  unfold records
  iintro ⟨H, -⟩
  iapply h; iexact H
omit [FloatOps F] in
/-- The first round of any one cell has begun. -/
theorem rec_reached (ck : Dev nD × CK) : records (F := F) m K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records
  iintro ⟨-, H⟩
  iapply h; iexact H

/-! ## The state -/

/-- Whether what message `j` forwards has arrived. -/
def avail (nr : ℕ) (j : Msg) : Bool := match parent j with | none => true | some p => decide (ridx p < nr)

/-- The right to send a message: the tokens of the two duties, and the neighbour's slot. -/
def sendRight (ns : ℕ) (j : Msg) : sProp 𝕄 :=
  if sidx j < ns then iprop(emp)
  else iprop(dutyTok ER (sCell c j) 0 (0 : Fin 3) ∗ dutyTok ER (rCell (nb (dim j) c) j) 0 (0 : Fin 3) ∗ slotAny (F := F) j (nb (dim j) c))
/-- The cell counting a send. -/
def sendCell (ns nw : ℕ) (j : Msg) : sProp 𝕄 :=
  if widx j < nw then iprop(atPos ER (sCell c j) 1 (∅ : Finset (Fin 3)) 0)
  else iprop(atPos ER (sCell c j) 0 (∅ : Finset (Fin 3)) 0 ∗ if sidx j < ns then iprop(cred (tallyAt (sCell c j) () N)) else iprop(emp))
/-- The cell counting an arrival, and the arrived rows. -/
def recvCell (nr : ℕ) (j : Msg) : sProp 𝕄 :=
  if ridx j < nr then iprop(atPos ER (rCell c j) 1 (∅ : Finset (Fin 3)) 0 ∗ slotPts m j (keep j) c)
  else iprop(atPos ER (rCell c j) 0 (∅ : Finset (Fin 3)) 0 ∗ cred (tallyAt (rCell c j) () N))
/-- The share a message is sent from, unless the transfer holds it. -/
def source (ns nr nw : ℕ) (j : Msg) : sProp 𝕄 :=
  if avail nr j = true ∧ (ns ≤ sidx j ∨ widx j < nw) then srcPts m j c else iprop(emp)

/-- The state after `ns` sends, `nr` waits for arrivals and `nw` waits for sends. -/
def St (ns nr nw : ℕ) : sProp 𝕄 :=
  iprop(records m K ∗ levAts L lv ∗ (∃ W : Waits sig Unit, owes (c : Thread nD τ) (Ow c ns) W)
    ∗ (bigSep Finset.univ (sendRight (F := F) c ns)) ∗ (bigSep Finset.univ (sendCell (F := F) c ns nw))
    ∗ (bigSep Finset.univ (recvCell m c nr)) ∗ bigSep Finset.univ (source m c ns nr nw))

/-- A program on the device's core. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## One member of a family changes -/

omit [FloatOps F] in
/-- A family over the messages, opened at one of them: the rest is the rest of any family that agrees elsewhere. -/
theorem open_at (j : Msg) (Φ : Msg → sProp 𝕄) : bigSep Finset.univ Φ = iprop(Φ j ∗ bigSep (Finset.univ.erase j) Φ) := bigSep_univ_split j
omit [FloatOps F] in
/-- A family closed again with its member at `j` changed. -/
theorem close_at (j : Msg) (Φ Φ' : Msg → sProp 𝕄) (h : ∀ k, k ≠ j → Φ k = Φ' k) :
    bigSep Finset.univ Φ' = iprop(Φ' j ∗ bigSep (Finset.univ.erase j) Φ) := by
  rw [open_at j, bigSep_congr fun k hk => (h k (Finset.ne_of_mem_erase hk)).symm]

/-! ## Sends -/

/-- Where a message is sent from. -/
def srcM (j : Msg) : Memref sig .tc .vmem S256x4096 .i8 := match parent j with | none => xHalf j.1 | some p => slotM p

omit [FloatOps F] in
/-- The source of a message holds the rows that the message brings to the neighbour. -/
theorem src_spec (j : Msg) : ∃ f : Buf (Elt F) ((srcM j).view.loc (c : Thread nD τ)),
    srcPts m j c = ((srcM j).view.loc (c : Thread nD τ) ↦[(srcM j).view.set]{shr j} f : sProp 𝕄)
      ∧ (srcM j).view.read (Elt F) f = msgC m j (nb (dim j) c) := by
  unfold srcPts srcM
  cases h : parent j with
  | none => exact ⟨xstg m c, rfl, by unfold msgC half; rw [org_root_nb j c h]⟩
  | some p =>
    refine ⟨slotC m p c, rfl, ?_⟩
    have hb : p.1 = j.1 := by
      unfold parent at h
      cases hs : src j.2 with
      | none => rw [hs] at h; cases h
      | some i => rw [hs] at h; exact (congrArg Prod.fst (Option.some.inj h)).symm
    dsimp only
    rw [read_slotC]; unfold msgC; rw [org_forward_nb j p c h, hb]

/-- The transfer itself. -/
theorem send_core (j : Msg) (O : CellTallies nD τ sig Unit) (W : Waits sig Unit)
    {f : Buf (Elt F) ((srcM j).view.loc (c : Thread nD τ))} (fd : Buf (Elt F) ((slotM j).view.loc (nb (dim j) c : Thread nD τ)))
    (hf : srcPts m j c = ((srcM j).view.loc (c : Thread nD τ) ↦[(srcM j).view.set]{shr j} f : sProp 𝕄))
    (hr : (srcM j).view.read (Elt F) f = msgC m j (nb (dim j) c))
    {hsc : (slotM j : Memref sig (Dev.tc (nb (dim j) c) : Thread nD τ).2.kind .vmem S256x4096 .i8).view.ref.isScScratch = false}
    {hsrc : (srcM j).view.WordExact} {hdst : (slotM j).view.WordExact}
    {hsem : DmaTarget.Typed .vmem (.dma (rS j)) (.remote (Dev.tc (nb (dim j) c) : Thread nD τ) (slotM j) (.dma (sS j)) hsc)}
    {α : Type} {Q : α → sProp 𝕄} {k : PUnit → Prog (TpuEff nD τ sig (Elt F) Λ₀ .tc) α} :
    iprop(cellInv ER (Rd m) (K (c, some (false, j))) (sCell c j) ∗ cellInv ER (Rd m) (K (nb (dim j) c, some (true, j))) (rCell (nb (dim j) c) j)
        ∗ srcPts m j c ∗ ((slotM j).view.loc (nb (dim j) c : Thread nD τ) ↦[(slotM j).view.set]{fullShare} fd)
        ∗ owes (c : Thread nD τ) (O + tallyAt (rCell (nb (dim j) c) j) () N) W
        ∗ dutyTok ER (sCell c j) 0 (0 : Fin 3) ∗ reached ER (sCell c j) 0
        ∗ dutyTok ER (rCell (nb (dim j) c) j) 0 (0 : Fin 3) ∗ reached ER (rCell (nb (dim j) c) j) 0)
      ⊢ iprop(((cred (tallyAt (sCell c j) () N) ∗ owes (c : Thread nD τ) O W) -∗ WP c (k ⟨⟩) Q)
          -∗ WP c (.op (.enqueueDma (srcM j) (.remote (Dev.tc (nb (dim j) c) : Thread nD τ) (slotM j) (.dma (sS j)) hsc) (.dma (rS j)) hsrc hdst hsem) k) Q) := by
  rw [hf]
  exact Rounds.wp_send_pointsTo 𝒱₀ ER (Rd m) (c : Thread nD τ) none (κ₁ := K (c, some (false, j))) (κ₂ := K (nb (dim j) c, some (true, j)))
    (r₁ := 0) (r₂ := 0) (d₁ := (0 : Fin 3)) (d₂ := (0 : Fin 3)) (fd := fd)
    (by rw [duties_s m c j]; exact Finset.mem_singleton_self _) (by rw [duties_r m (nb (dim j) c) j]; exact Finset.mem_singleton_self _)
    () () N (show (slotM j).view.amount (.dma (rS j)) = N from credit_slot j) (amount_s m c j 0) (amount_r m (nb (dim j) c) j 0) O rfl (W := W)
    (by rw [payload_s, hf])
    (by rw [payload_r, slot_landed m j _ fd _ hr])

/-- Counting one message more changes the answer for that message alone. -/
theorem lt_succ_of_ne {f : Msg → ℕ} (inj : ∀ j k, f j = f k → j = k) {j k : Msg} (h : k ≠ j) : (f k < f j + 1) = (f k < f j) :=
  propext ⟨fun hlt => lt_of_le_of_ne (Nat.lt_succ_iff.mp hlt) fun he => h (inj k j he), fun hlt => Nat.lt_succ_of_lt hlt⟩
/-- Past the position of `j`, the positions of other messages compare as before. -/
theorem succ_le_of_ne {f : Msg → ℕ} (inj : ∀ j k, f j = f k → j = k) {j k : Msg} (h : k ≠ j) : (f j + 1 ≤ f k) = (f j ≤ f k) :=
  propext ⟨fun hle => Nat.le_of_succ_le hle, fun hle => lt_of_le_of_ne hle fun he => h (inj j k he).symm⟩

/-- Sending a message whose rows are there. -/
theorem step_send (j : Msg) {ns nr nw : ℕ} (hs : sidx j = ns) (ha : avail nr j = true) (hw : nw ≤ widx j)
    {n : Dev nD} (hn : n = nb (dim j) c) {M D : Memref sig .tc .vmem S256x4096 .i8} {q₁ q₂ : DmaSem sig}
    (hM : M = srcM j) (hD : D = slotM j) (h₁ : q₁ = sS j) (h₂ : q₂ = rS j)
    {hsc : (D : Memref sig (Dev.tc n : Thread nD τ).2.kind .vmem S256x4096 .i8).view.ref.isScScratch = false}
    {hsrc : M.view.WordExact} {hdst : D.view.WordExact}
    {hsem : DmaTarget.Typed .vmem (.dma q₂) (.remote (Dev.tc n : Thread nD τ) D (.dma q₁) hsc)}
    {α : Type} {Q : α → sProp 𝕄} {k : PUnit → Prog (TpuEff nD τ sig (Elt F) Λ₀ .tc) α} :
    St m K c ns nr nw ⊢ iprop((St m K c (ns + 1) nr nw -∗ WP c (k ⟨⟩) Q)
      -∗ WP c (.op (.enqueueDma M (.remote (Dev.tc n : Thread nD τ) D (.dma q₁) hsc) (.dma q₂) hsrc hdst hsem) k) Q) := by
  subst hn hM hD h₁ h₂ hs
  obtain ⟨f, hf, hr⟩ := src_spec m c j
  have hA := open_at j (sendRight (F := F) c (sidx j))
  have hA' := close_at j (sendRight (F := F) c (sidx j)) (sendRight (F := F) c (sidx j + 1))
    fun k hk => by simp only [sendRight, lt_succ_of_ne sidx_inj hk]
  have hB := open_at j (sendCell (F := F) c (sidx j) nw)
  have hB' := close_at j (sendCell (F := F) c (sidx j) nw) (sendCell (F := F) c (sidx j + 1) nw)
    fun k hk => by simp only [sendCell, lt_succ_of_ne sidx_inj hk]
  have hC := open_at j (source m c (sidx j) nr nw)
  have hC' := close_at j (source m c (sidx j) nr nw) (source m c (sidx j + 1) nr nw)
    fun k hk => by simp only [source, succ_le_of_ne sidx_inj hk]
  rw [show sendRight (F := F) c (sidx j) j = _ from if_neg (Nat.lt_irrefl _)] at hA
  rw [show sendRight (F := F) c (sidx j + 1) j = _ from if_pos (Nat.lt_succ_self _)] at hA'
  rw [show sendCell (F := F) c (sidx j) nw j = _ from if_neg (by omega), if_neg (Nat.lt_irrefl _)] at hB
  rw [show sendCell (F := F) c (sidx j + 1) nw j = _ from if_neg (by omega), if_pos (Nat.lt_succ_self _)] at hB'
  rw [show source m c (sidx j) nr nw j = _ from if_pos ⟨ha, .inl (le_refl _)⟩] at hC
  rw [show source m c (sidx j + 1) nr nw j = _ from if_neg (by omega)] at hC'
  unfold St
  rw [hA, hA', hB, hB', hC, hC', Ow_step c j]
  unfold slotAny
  iintro ⟨#HR, #HL, ⟨%W, HO⟩, ⟨⟨Ht1, Ht2, ⟨%fd, Hd⟩⟩, HA⟩, ⟨⟨Hat, -⟩, HB⟩, HC, ⟨Hsrc, HD⟩⟩ Hk
  ihave #HI1 := (rec_inv m K (c, some (false, j))) $$ HR
  ihave #HI2 := (rec_inv m K (nb (dim j) c, some (true, j))) $$ HR
  ihave #HR1 := (rec_reached m K (c, some (false, j))) $$ HR
  ihave #HR2 := (rec_reached m K (nb (dim j) c, some (true, j))) $$ HR
  iapply (send_core m K c j (Ow c (sidx j + 1)) W fd hf hr) $$ [Hsrc Hd HO Ht1 Ht2]
  · isplitr; · iexact HI1
    isplitr; · iexact HI2
    isplitl [Hsrc]; · iexact Hsrc
    isplitl [Hd]; · iexact Hd
    isplitl [HO]; · iexact HO
    isplitl [Ht1]; · iexact Ht1
    isplitr; · iexact HR1
    isplitl [Ht2]; · iexact Ht2
    iexact HR2
  iintro ⟨Hcred, HO⟩
  iapply Hk
  isplitr; · iexact HR
  isplitr; · iexact HL
  isplitl [HO]; · iexists W; iexact HO
  isplitl [HA]
  · isplitr; · iempintro
    iexact HA
  isplitl [Hat Hcred HB]
  · isplitl [Hat Hcred]
    · isplitl [Hat] <;> iassumption
    iexact HB
  isplitl [HC]; · iexact HC
  isplitr; · iempintro
  iexact HD

/-! ## Waits -/

/-- A wait on one of the cells a transfer credits, taking all it counts. -/
theorem wait_core (q : DmaSem sig) (κ : ℕ) (O : CellTallies nD τ sig Unit) (W : Waits sig Unit) (P : sProp 𝕄)
    (hE : (Rd (F := F) m).expect ((c : Thread nD τ), .dma q) 0 = N)
    (hP : bigSep ((Rd (F := F) m).duties ((c : Thread nD τ), .dma q) 0 \ ∅) (fun d => (Rd (F := F) m).payload ((c : Thread nD τ), .dma q) 0 d) = P)
    {M D : Memref sig .tc .vmem S256x4096 .i8} {hsrc : M.view.WordExact} {hdst : D.view.WordExact} (hN : D.view.dmaCredit = N)
    {α : Type} {Q : α → sProp 𝕄} {k : PUnit → Prog (TpuEff nD τ sig (Elt F) Λ₀ .tc) α} :
    iprop(cellInv ER (Rd m) κ ((c : Thread nD τ), .dma q) ∗ cred (tallyAt ((c : Thread nD τ), SemLoc.dma q) () N) ∗ owes (c : Thread nD τ) O W
        ∗ MayWait (c : Thread nD τ) (.dma q) () O ∗ atPos ER ((c : Thread nD τ), .dma q) 0 (∅ : Finset (Fin 3)) 0)
      ⊢ iprop(((owes (c : Thread nD τ) O (insert (SemLoc.dma q, ()) W) ∗ atPos ER ((c : Thread nD τ), .dma q) 1 (∅ : Finset (Fin 3)) 0 ∗ P) -∗ WP c (k ⟨⟩) Q)
          -∗ WP c (.op (.waitDma2 q M D hsrc hdst) k) Q) := by
  iintro ⟨#HI, Hc, HO, HM, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, hN, hE])) $$ [Hc HO HM Hat]
  · isplitr; · iexact HI
    isplitl [Hc]; · iexact Hc
    isplitl [HO]; · iexact HO
    isplitl [HM]; · iexact HM
    iexact Hat
  iintro ⟨HO, Hat, -, Hpay⟩
  iapply Hk
  isplitl [HO]; · iexact HO
  isplitl [Hat]; · iexact Hat
  iapply (Entails.of_eq hP); iexact Hpay

omit [FloatOps F] in
/-- When a message has arrived, the sources of those that forward it are there. -/
theorem source_arrive (j : Msg) (ns nw : ℕ) (hc : ∀ k, parent k = some j → ns ≤ sidx k) :
    bigSep Finset.univ (source m c ns (ridx j + 1) nw) = iprop(bigSep Finset.univ (source m c ns (ridx j) nw) ∗ fwd m (some j) c) := by
  refine (bigSep_congr (Ψ := fun k => BI.sep (source m c ns (ridx j) nw k) (if parent k = some j then srcPts m k c else iprop(emp))) fun k _ => ?_).trans (bigSep_sep _ _ _)
  by_cases h : parent k = some j
  · have h0 : source m c ns (ridx j) nw k = iprop(emp) := if_neg fun h' => by
      have := h'.1; unfold avail at this; rw [h] at this; simp at this
    have h1 : source m c ns (ridx j + 1) nw k = srcPts m k c := if_pos ⟨by unfold avail; rw [h]; simp, .inl (hc k h)⟩
    rw [h0, h1, if_pos h]
    exact (equiv_iff.mp emp_sep).symm
  · have h1 : avail (ridx j + 1) k = avail (ridx j) k := by
      unfold avail
      cases hp : parent k with
      | none => rfl
      | some p =>
        dsimp only
        have hne : p ≠ j := fun e => h (by rw [hp, e])
        simp only [lt_succ_of_ne ridx_inj hne]
    rw [if_neg h, source, source, h1]
    exact (equiv_iff.mp sep_emp).symm

/-- Waiting for an arrival: the rows are there to be read, and to be sent on. -/
theorem step_recv (j : Msg) {ns nr nw : ℕ} (hs : ridx j = nr) (hc : ∀ k, parent k = some j → ns ≤ sidx k) (hmay : ∀ k, ns ≤ sidx k → rank j < rank k)
    {M D : Memref sig .tc .vmem S256x4096 .i8} {q : DmaSem sig} (h₁ : q = rS j) (hN : D.view.dmaCredit = N)
    {hsrc : M.view.WordExact} {hdst : D.view.WordExact}
    {α : Type} {Q : α → sProp 𝕄} {k : PUnit → Prog (TpuEff nD τ sig (Elt F) Λ₀ .tc) α} :
    St m K c ns nr nw ⊢ iprop((St m K c ns (nr + 1) nw -∗ WP c (k ⟨⟩) Q)
      -∗ WP c (.op (.waitDma2 q M D hsrc hdst) k) Q) := by
  subst h₁ hs
  have hA := open_at j (recvCell m c (ridx j))
  have hA' := close_at j (recvCell m c (ridx j)) (recvCell m c (ridx j + 1))
    fun k hk => by simp only [recvCell, lt_succ_of_ne ridx_inj hk]
  rw [show recvCell m c (ridx j) j = _ from if_neg (Nat.lt_irrefl _)] at hA
  rw [show recvCell m c (ridx j + 1) j = _ from if_pos (Nat.lt_succ_self _)] at hA'
  unfold St
  rw [hA, hA', source_arrive m c j ns nw hc]
  iintro ⟨#HR, #HL, ⟨%W, HO⟩, HA, HB, ⟨⟨Hat, Hcr⟩, HC⟩, HD⟩ Hk
  ihave #HI1 := (rec_inv m K (c, some (true, j))) $$ HR
  ihave HM := (mayWait_of (F := F) c (.dma (rS j)) ns (fun k hk => by rw [lv_r]; exact hmay k hk)) $$ [HL]
  · iexact HL
  iapply (wait_core m c (rS j) (K (c, some (true, j))) (Ow c ns) W _ (expect_r m c j) ((rest_r m c j).trans (slot_open m j c)) hN) $$ [Hcr HO HM Hat]
  · isplitr; · iexact HI1
    isplitl [Hcr]; · iexact Hcr
    isplitl [HO]; · iexact HO
    isplitl [HM]; · iexact HM
    iexact Hat
  iintro ⟨HO, Hat, Hslot, Hfwd⟩
  iapply Hk
  isplitr; · iexact HR
  isplitr; · iexact HL
  isplitl [HO]; · iexists _; iexact HO
  isplitl [HA]; · iexact HA
  isplitl [HB]; · iexact HB
  isplitl [Hat Hslot HC]
  · isplitl [Hat Hslot]
    · isplitl [Hat] <;> iassumption
    iexact HC
  isplitl [HD]; · iexact HD
  iexact Hfwd

/-- Waiting for a completed send: the source is back. -/
theorem step_swait (j : Msg) {ns nr nw : ℕ} (hs : widx j = nw) (hsent : sidx j < ns) (ha : avail nr j = true)
    (hmay : ∀ k, ns ≤ sidx k → 0 < rank k)
    {M D : Memref sig .tc .vmem S256x4096 .i8} {q : DmaSem sig} (h₁ : q = sS j) (hN : D.view.dmaCredit = N)
    {hsrc : M.view.WordExact} {hdst : D.view.WordExact}
    {α : Type} {Q : α → sProp 𝕄} {k : PUnit → Prog (TpuEff nD τ sig (Elt F) Λ₀ .tc) α} :
    St m K c ns nr nw ⊢ iprop((St m K c ns nr (nw + 1) -∗ WP c (k ⟨⟩) Q)
      -∗ WP c (.op (.waitDma2 q M D hsrc hdst) k) Q) := by
  subst h₁ hs
  have hB := open_at j (sendCell (F := F) c ns (widx j))
  have hB' := close_at j (sendCell (F := F) c ns (widx j)) (sendCell (F := F) c ns (widx j + 1))
    fun k hk => by simp only [sendCell, lt_succ_of_ne widx_inj hk]
  have hC := open_at j (source m c ns nr (widx j))
  have hC' := close_at j (source m c ns nr (widx j)) (source m c ns nr (widx j + 1))
    fun k hk => by simp only [source, lt_succ_of_ne widx_inj hk]
  rw [show sendCell (F := F) c ns (widx j) j = _ from if_neg (Nat.lt_irrefl _), if_pos hsent] at hB
  rw [show sendCell (F := F) c ns (widx j + 1) j = _ from if_pos (Nat.lt_succ_self _)] at hB'
  rw [show source m c ns nr (widx j) j = _ from if_neg (by omega)] at hC
  rw [show source m c ns nr (widx j + 1) j = _ from if_pos ⟨ha, .inr (Nat.lt_succ_self _)⟩] at hC'
  unfold St
  rw [hB, hB', hC, hC']
  iintro ⟨#HR, #HL, ⟨%W, HO⟩, HA, ⟨⟨Hat, Hcr⟩, HB⟩, HC, ⟨-, HD⟩⟩ Hk
  ihave #HI1 := (rec_inv m K (c, some (false, j))) $$ HR
  ihave HM := (mayWait_of (F := F) c (.dma (sS j)) ns (fun k hk => by rw [lv_s]; exact hmay k hk)) $$ [HL]
  · iexact HL
  iapply (wait_core m c (sS j) (K (c, some (false, j))) (Ow c ns) W _ (expect_s m c j) (rest_s m c j) hN) $$ [Hcr HO HM Hat]
  · isplitr; · iexact HI1
    isplitl [Hcr]; · iexact Hcr
    isplitl [HO]; · iexact HO
    isplitl [HM]; · iexact HM
    iexact Hat
  iintro ⟨HO, Hat, Hsrc⟩
  iapply Hk
  isplitr; · iexact HR
  isplitr; · iexact HL
  isplitl [HO]; · iexists _; iexact HO
  isplitl [HA]; · iexact HA
  isplitl [Hat HB]
  · isplitl [Hat] <;> iassumption
  isplitl [HC]; · iexact HC
  isplitl [Hsrc] <;> iassumption

/-! ## Reading a slot -/

/-- What a load of a message's slot gives. -/
def ldC (j : Msg) : Vec F S1x256x4096 .i8 := (bM j.1).view.readAt (Elt F) (slotR j.2).toLoadRect (slotC m j c)

omit [FloatOps F] in
/-- It is the rows of the message. -/
theorem ldC_eq (j : Msg) (h) : shapeCast S256x4096 (ldC m c j) h = msgC m j c := by
  rw [← read_slotC]; rfl

/-- Loading the slot of a message that has arrived. -/
theorem step_read (j : Msg) {ns nr nw : ℕ} (hr : ridx j < nr) {B : Memref sig .tc .vmem S7x256x4096 .i8} (hB : B = bM j.1)
    {hl : B.view.LoadsAt (slotR j.2).toLoadRect}
    {α : Type} {Q : α → sProp 𝕄} {k : Vec F S1x256x4096 .i8 → Prog (TpuEff nD τ sig (Elt F) Λ₀ .tc) α} :
    St m K c ns nr nw ⊢ iprop((St m K c ns nr nw -∗ WP c (k (ldC m c j)) Q) -∗ WP c (.op (.load B (slotR j.2).toLoadRect hl) k) Q) := by
  subst hB
  have hA := open_at j (recvCell m c nr)
  rw [show recvCell m c nr j = _ from if_pos hr] at hA
  unfold St
  rw [hA]
  unfold slotPts
  iintro ⟨#HR, #HL, HO, HA, HB, ⟨⟨Hat, Hs⟩, HC⟩, HD⟩ Hk
  iapply (wp_load 𝒱₀ (c : Thread nD τ) none Set.univ (m := bM j.1) (S := (slotM j).view.set) (by rw [slot_set j.1 j.2]; exact Finset.Subset.refl _)) $$ Hs; iintro Hs
  iapply Hk
  isplitr; · iexact HR
  isplitr; · iexact HL
  isplitl [HO]; · iexact HO
  isplitl [HA]; · iexact HA
  isplitl [HB]; · iexact HB
  isplitl [Hat Hs HC]
  · isplitl [Hat Hs]
    · isplitl [Hat] <;> iassumption
    iexact HC
  iexact HD

end Cert.Cube
-- ==== Proof.Out.lean ====
/-
# The result's staging buffer

The result is fifteen blocks of rows: the product of the device's own rows, and for each message the product of the rows
it brings. `Done` says which blocks are already there; each store adds one.
-/
module

public import proofs.«01_k».proof.Proof.Steps

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (c : Dev nD)

/-! ## What the result holds -/

/-- The one place of a buffer of one element. -/
abbrev one : S1.Idx := Shape.Idx.first (numel1_S1.symm ▸ Nat.one_pos)

/-- The product of the two scales. -/
def sc : F .f32 := k0_pay1 (sxstg m c one) (swstg m c one)

/-- The product of half the rows of device `e` with this device's columns. -/
def tile (b : Fin 2) (e : Dev nD) : FVec F S256x256 .f32 := k0_pay5 (sc m c) (half m b e) (wstg m c)

/-- The product of the device's own rows. -/
def ownTile : FVec F S512x256 .f32 := k0_pay2 (sc m c) (xstg m c) (wstg m c)

/-- The result has 4096 rows. -/
theorem row_lt (i : S4096x256.Idx) : (i 0).val < 4096 := (i 0).isLt

/-- The device to which a row belongs. -/
def rowDev (i : S4096x256.Idx) : Dev nD := ⟨(i 0).val / 512, by have := row_lt i; show _ < 8; omega⟩
/-- The half of its device's rows to which a row belongs. -/
def rowHalf (i : S4096x256.Idx) : Fin 2 := ⟨(i 0).val / 256 % 2, Nat.mod_lt _ (by decide)⟩
/-- The place of an element within its block of 512 rows. -/
def inOwn (i : S4096x256.Idx) : S512x256.Idx := fun a => match a with
  | 0 => ⟨(i 0).val % 512, Nat.mod_lt _ (by decide)⟩
  | 1 => ⟨(i 1).val, (i 1).isLt⟩
/-- The place of an element within its half block of 256 rows. -/
def inTile (i : S4096x256.Idx) : S256x256.Idx := fun a => match a with
  | 0 => ⟨(i 0).val % 256, Nat.mod_lt _ (by decide)⟩
  | 1 => ⟨(i 1).val, (i 1).isLt⟩

/-- What the result holds at the end. -/
def G : (cc0_stg4_0 : Ref sig .tc).ty.Contents (Elt F) := fun (i : S4096x256.Idx) =>
  if rowDev i = c then ownTile m c (inOwn i) else tile m c (rowHalf i) (rowDev i) (inTile i)

/-- Whether the element's block is among the first `ng` products. -/
def covered (ng : ℕ) (i : S4096x256.Idx) : Prop :=
  (rowDev i = c ∧ 0 < ng) ∨ ∃ j : Msg, ridx j + 1 < ng ∧ j.1 = rowHalf i ∧ org j c = rowDev i

/-- The first `ng` products are there. -/
def Done (ng : ℕ) (f : (cc0_stg4_0 : Ref sig .tc).ty.Contents (Elt F)) : Prop := ∀ i : S4096x256.Idx, covered c ng i → f i = G m c i

/-- Of no products, anything is done. -/
theorem done_zero (f) : Done m c 0 f := fun i h => by rcases h with ⟨-, h⟩ | ⟨j, h, -⟩ <;> exact absurd h (Nat.not_lt_zero _)

/-- All fifteen products are the whole result. -/
theorem done_all {f} (h : Done m c 15 f) : f = G m c := funext fun (i : S4096x256.Idx) => h i (by
  rcases org_cover (rowHalf i) c (rowDev i) with e | ⟨k, e⟩
  · exact .inl ⟨e, by decide⟩
  · exact .inr ⟨(rowHalf i, k), by have := ridx_lt (rowHalf i, k); omega, rfl, e⟩)

/-- A result's contents after a store of `n` rows. -/
abbrev wrote {n : ℕ} (off : Fin 2 → ℕ) (inb : ∀ a, off a + (![n, 256] : Fin 2 → ℕ) a ≤ S4096x256.size a)
    (f : (cc0_stg4_0 : Ref sig .tc).ty.Contents (Elt F)) (w : (Rect.unit (s := S4096x256) off ![n, 256] inb).shape.Idx → Elt F .f32) :
    (cc0_stg4_0 : Ref sig .tc).ty.Contents (Elt F) :=
  (oM.access (Rect.unit (s := S4096x256) off ![n, 256] inb)).write (Elt F) f w Finset.univ

omit [FloatOps F] in
/-- An element of the stored rows holds what was stored. -/
theorem wrote_in {n : ℕ} {off : Fin 2 → ℕ} {inb : ∀ a, off a + (![n, 256] : Fin 2 → ℕ) a ≤ S4096x256.size a} (f : (cc0_stg4_0 : Ref sig .tc).ty.Contents (Elt F)) (w) (y : (Rect.unit (s := S4096x256) off ![n, 256] inb).shape.Idx)
    (i : S4096x256.Idx) (h : ∀ a, (i a).val = off a + (y a).val) : wrote off inb f w i = w y := by
  have hi : i = (Rect.unit (s := S4096x256) off ![n, 256] inb).emb y := funext fun a => Fin.ext ((h a).trans (by
    show off a + (y a).val = off a + 1 * (y a).val; omega))
  rw [hi]
  exact View.write_emb_of_mem (v := oM.access (Rect.unit (s := S4096x256) off ![n, 256] inb)) f w (Finset.mem_univ y)

omit [FloatOps F] in
/-- An element of other rows holds what it held. -/
theorem wrote_out {n : ℕ} {off : Fin 2 → ℕ} {inb : ∀ a, off a + (![n, 256] : Fin 2 → ℕ) a ≤ S4096x256.size a} (f : (cc0_stg4_0 : Ref sig .tc).ty.Contents (Elt F)) (w)
    (i : S4096x256.Idx) (h : ¬ (off 0 ≤ (i 0).val ∧ (i 0).val < off 0 + n)) : wrote off inb f w i = f i := by
  refine View.write_of_not_mem (v := oM.access (Rect.unit (s := S4096x256) off ![n, 256] inb)) f w _ fun hm => h ?_
  obtain ⟨y, -, hy⟩ := Finset.mem_map.mp hm
  have h0 : (i 0).val = off 0 + 1 * (y 0).val := congrArg (fun z : S4096x256.Idx => (z 0).val) hy.symm
  have h1 : (y 0).val < n := (y 0).isLt
  omega

/-- Storing the product of the own rows first. -/
theorem done_own {off : Fin 2 → ℕ} (hoff : off = ![512 * c.val, 0]) {inb} {w : FVec F S512x256 .f32} (hw : w = ownTile m c) (f) :
    Done m c 1 (wrote (n := 512) off inb f w) := fun i h => by
  subst hoff hw
  rcases h with ⟨e, -⟩ | ⟨j, h, -⟩
  · have e' : (i 0).val / 512 = c.val := congrArg Fin.val e
    rw [show G m c i = ownTile m c (inOwn i) from if_pos e]
    refine wrote_in f _ (inOwn i) i fun a => ?_
    match a with
    | 0 => show (i 0).val = 512 * c.val + (i 0).val % 512; omega
    | 1 => exact (Nat.zero_add _).symm
  · omega

/-- Storing the product of a message's rows. -/
theorem done_tile (j : Msg) {off : Fin 2 → ℕ} (hoff : off = ![512 * (org j c).val + 256 * j.1.val, 0]) {inb} {w : FVec F S256x256 .f32}
    (hw : w = tile m c j.1 (org j c)) {f} (hf : Done m c (ridx j + 1) f) : Done m c (ridx j + 2) (wrote (n := 256) off inb f w) := fun i h => by
  subst hoff hw
  have hb : j.1.val < 2 := j.1.isLt
  by_cases hin : 512 * (org j c).val + 256 * j.1.val ≤ (i 0).val ∧ (i 0).val < 512 * (org j c).val + 256 * j.1.val + 256
  · have e : rowDev i = org j c := Fin.ext (show (i 0).val / 512 = _ by omega)
    have eb : rowHalf i = j.1 := Fin.ext (show (i 0).val / 256 % 2 = _ by omega)
    have hG : G m c i = tile m c (rowHalf i) (rowDev i) (inTile i) := if_neg (by rw [e]; exact org_ne j c)
    rw [hG, e, eb]
    refine wrote_in f _ (inTile i) i fun a => ?_
    match a with
    | 0 => show (i 0).val = 512 * (org j c).val + 256 * j.1.val + (i 0).val % 256; omega
    | 1 => exact (Nat.zero_add _).symm
  · rw [wrote_out f _ i hin]
    refine hf i ?_
    rcases h with ⟨e, -⟩ | ⟨k, h, hk, he⟩
    · exact .inl ⟨e, Nat.succ_pos _⟩
    · refine .inr ⟨k, ?_, hk, he⟩
      have hne : ridx k ≠ ridx j := fun e => by
        have := ridx_inj k j e; subst this
        have e1 : (org k c).val = (i 0).val / 512 := congrArg Fin.val he
        have e2 : k.1.val = (i 0).val / 256 % 2 := congrArg Fin.val hk
        exact hin (by omega)
      omega

/-! ## The buffers a device works on -/

/-- The own rows (at the share not lent to transfers), the columns, and the result with its first `ng` products. -/
def Mem (ng : ℕ) : sProp 𝕄 :=
  iprop((((c : Thread nD τ).loc cc0_stg0_0) ↦{fullShare.right} xstg m c) ∗ (((c : Thread nD τ).loc cc0_stg1_0) ↦{fullShare} wstg m c)
    ∗ ∃ f, ⌜Done m c ng f⌝ ∗ (((c : Thread nD τ).loc cc0_stg4_0) ↦{fullShare} f))

section Ops
variable {α : Type} {ng : ℕ}

/-- The offset zero of two axes. -/
theorem zero2 : (![0, 0] : Fin 2 → ℕ) = fun _ => 0 := by funext a; match a with | 0 => rfl | 1 => rfl

/-- Loading the own rows. -/
theorem step_x {inb} {hl} {k : Vec F S512x4096 .i8 → Prog (TpuEff nD τ sig (Elt F) Λ₀ .tc) α} {Q : α → sProp 𝕄} :
    Mem m c ng ⊢ iprop((Mem m c ng -∗ WP c (k (xstg m c)) Q)
      -∗ WP c (.op (.load xM (Rect.unit (s := S512x4096) ![0, 0] S512x4096.size inb).toLoadRect hl) k) Q) := by
  unfold Mem
  iintro ⟨Hx, Hw, Ho⟩ Hk
  iapply (wp_load 𝒱₀ (c : Thread nD τ) none Set.univ (m := xM) (Finset.subset_univ _)) $$ Hx; iintro Hx
  rw [show (xM.view.readAt (Elt F) (Rect.unit (s := S512x4096) ![0, 0] S512x4096.size inb).toLoadRect (xstg m c)) = xstg m c from
    Memref.readAt_unit_zero (Elt F) cc0_stg0_0 zero2 _ _]
  iapply Hk
  isplitl [Hx]; · iexact Hx
  isplitl [Hw] <;> iassumption

/-- Loading the columns. -/
theorem step_w {inb} {hl} {k : Vec F S4096x256 .i8 → Prog (TpuEff nD τ sig (Elt F) Λ₀ .tc) α} {Q : α → sProp 𝕄} :
    Mem m c ng ⊢ iprop((Mem m c ng -∗ WP c (k (wstg m c)) Q)
      -∗ WP c (.op (.load wM (Rect.unit (s := S4096x256) ![0, 0] S4096x256.size inb).toLoadRect hl) k) Q) := by
  unfold Mem
  iintro ⟨Hx, Hw, Ho⟩ Hk
  iapply (wp_load 𝒱₀ (c : Thread nD τ) none Set.univ (m := wM) (Finset.subset_univ _)) $$ Hw; iintro Hw
  rw [show (wM.view.readAt (Elt F) (Rect.unit (s := S4096x256) ![0, 0] S4096x256.size inb).toLoadRect (wstg m c)) = wstg m c from
    Memref.readAt_unit_zero (Elt F) cc0_stg1_0 zero2 _ _]
  iapply Hk
  isplitl [Hx]; · iexact Hx
  isplitl [Hw] <;> iassumption

/-- Loading from the result, whatever is there: nothing comes of it. -/
theorem step_dead {r : Rect S4096x256} {hl} {k : (r.shape.Idx → Elt F .f32) → Prog (TpuEff nD τ sig (Elt F) Λ₀ .tc) α} {Q : α → sProp 𝕄} :
    Mem m c ng ⊢ iprop((∀ v, Mem m c ng -∗ WP c (k v) Q) -∗ WP c (.op (.load oM r.toLoadRect hl) k) Q) := by
  unfold Mem
  iintro ⟨Hx, Hw, ⟨%f, %hf, Ho⟩⟩ Hk
  iapply (wp_load 𝒱₀ (c : Thread nD τ) none Set.univ (m := oM) (Finset.subset_univ _)) $$ Ho; iintro Ho
  iapply Hk
  isplitl [Hx]; · iexact Hx
  isplitl [Hw]; · iexact Hw
  iexists f; isplitr; · (ipureintro; exact hf)
  iexact Ho

/-- Storing the product of the own rows. -/
theorem step_own {off : Fin 2 → ℕ} (hoff : off = ![512 * c.val, 0]) {inb} {w : FVec F S512x256 .f32} (hw : w = ownTile m c) {hx hm}
    {k : PUnit → Prog (TpuEff nD τ sig (Elt F) Λ₀ .tc) α} {Q : α → sProp 𝕄} :
    Mem m c 0 ⊢ iprop((Mem m c 1 -∗ WP c (k ⟨⟩) Q)
      -∗ WP c (.op (.store oM (Rect.unit (s := S4096x256) off S512x256.size inb) w Finset.univ hx hm) k) Q) := by
  unfold Mem
  iintro ⟨Hx, Hw, ⟨%f, %hf, Ho⟩⟩ Hk
  iapply (wp_store 𝒱₀ (c : Thread nD τ) none Set.univ (m := oM) (r := Rect.unit (s := S4096x256) off S512x256.size inb) (Mk := Finset.univ) (Finset.subset_univ _)) $$ Ho; iintro Ho
  iapply Hk
  isplitl [Hx]; · iexact Hx
  isplitl [Hw]; · iexact Hw
  iexists _; isplitr
  · ipureintro; exact done_own m c hoff (inb := inb) hw f
  iexact Ho

/-- Storing the product of a message's rows. -/
theorem step_tile (j : Msg) (hg : ridx j + 1 = ng) {off : Fin 2 → ℕ} (hoff : off = ![512 * (org j c).val + 256 * j.1.val, 0]) {inb} {w : FVec F S256x256 .f32}
    (hw : w = tile m c j.1 (org j c)) {hx hm} {k : PUnit → Prog (TpuEff nD τ sig (Elt F) Λ₀ .tc) α} {Q : α → sProp 𝕄} :
    Mem m c ng ⊢ iprop((Mem m c (ng + 1) -∗ WP c (k ⟨⟩) Q)
      -∗ WP c (.op (.store oM (Rect.unit (s := S4096x256) off S256x256.size inb) w Finset.univ hx hm) k) Q) := by
  subst hg
  unfold Mem
  iintro ⟨Hx, Hw, ⟨%f, %hf, Ho⟩⟩ Hk
  iapply (wp_store 𝒱₀ (c : Thread nD τ) none Set.univ (m := oM) (r := Rect.unit (s := S4096x256) off S256x256.size inb) (Mk := Finset.univ) (Finset.subset_univ _)) $$ Ho; iintro Ho
  iapply Hk
  isplitl [Hx]; · iexact Hx
  isplitl [Hw]; · iexact Hw
  iexists _; isplitr
  · ipureintro; exact done_tile m c j hoff (inb := inb) hw hf
  iexact Ho

/-- The product of a message's rows, from the slot as it is loaded. -/
theorem tile_of_slot (j : Msg) : k0_pay5 (sc m c) (k0_pay4 (ldC m c j)) (wstg m c) = tile m c j.1 (org j c) := by
  unfold tile k0_pay4; rw [ldC_eq]; rfl

end Ops

end Cert.Cube
-- ==== Proof.Places.lean ====
/-
# Where the kernel's transfers go and where its stores land

The kernel computes the neighbour of each transfer and the row of each store from the device's number; here they are
read as the neighbour along the message's direction and the block of the message's origin, by going through the devices.
-/
module

public import proofs.«01_k».proof.Proof.Mesh

@[expose] public section

set_option maxRecDepth 16384

namespace Cert.Cube

open Cert.KernelIdeal Cert.KernelIdeal.Gen
open Idealize.ShloMosaic

variable (c : Dev nD)

/-! The neighbours: the barrier's three, then one per message in the order of sends. -/

/-- Signal 1 of the barrier goes to the neighbour along direction 0. -/
theorem dev1 : (⟨k0_dev1 c, k0_dev1_lt c⟩ : Dev nD) = nb 0 c := by revert c; decide +kernel
/-- Signal 2 of the barrier goes to the neighbour along direction 1. -/
theorem dev2 : (⟨k0_dev2 c, k0_dev2_lt c⟩ : Dev nD) = nb 1 c := by revert c; decide +kernel
/-- Signal 3 of the barrier goes to the neighbour along direction 2. -/
theorem dev3 : (⟨k0_dev3 c, k0_dev3_lt c⟩ : Dev nD) = nb 2 c := by revert c; decide +kernel
/-- Message 0 of half A goes to the neighbour along its direction. -/
theorem dev4 : (⟨k0_dev4 c, k0_dev4_lt c⟩ : Dev nD) = nb (dim (0, 0)) c := by revert c; decide +kernel
/-- Message 0 of half B goes to the neighbour along its direction. -/
theorem dev5 : (⟨k0_dev5 c, k0_dev5_lt c⟩ : Dev nD) = nb (dim (1, 0)) c := by revert c; decide +kernel
/-- Message 1 of half A goes to the neighbour along its direction. -/
theorem dev6 : (⟨k0_dev6 c, k0_dev6_lt c⟩ : Dev nD) = nb (dim (0, 1)) c := by revert c; decide +kernel
/-- Message 1 of half B goes to the neighbour along its direction. -/
theorem dev7 : (⟨k0_dev7 c, k0_dev7_lt c⟩ : Dev nD) = nb (dim (1, 1)) c := by revert c; decide +kernel
/-- Message 3 of half B goes to the neighbour along its direction. -/
theorem dev8 : (⟨k0_dev8 c, k0_dev8_lt c⟩ : Dev nD) = nb (dim (1, 3)) c := by revert c; decide +kernel
/-- Message 3 of half A goes to the neighbour along its direction. -/
theorem dev9 : (⟨k0_dev9 c, k0_dev9_lt c⟩ : Dev nD) = nb (dim (0, 3)) c := by revert c; decide +kernel
/-- Message 2 of half A goes to the neighbour along its direction. -/
theorem dev10 : (⟨k0_dev10 c, k0_dev10_lt c⟩ : Dev nD) = nb (dim (0, 2)) c := by revert c; decide +kernel
/-- Message 4 of half A goes to the neighbour along its direction. -/
theorem dev11 : (⟨k0_dev11 c, k0_dev11_lt c⟩ : Dev nD) = nb (dim (0, 4)) c := by revert c; decide +kernel
/-- Message 2 of half B goes to the neighbour along its direction. -/
theorem dev12 : (⟨k0_dev12 c, k0_dev12_lt c⟩ : Dev nD) = nb (dim (1, 2)) c := by revert c; decide +kernel
/-- Message 4 of half B goes to the neighbour along its direction. -/
theorem dev13 : (⟨k0_dev13 c, k0_dev13_lt c⟩ : Dev nD) = nb (dim (1, 4)) c := by revert c; decide +kernel
/-- Message 5 of half A goes to the neighbour along its direction. -/
theorem dev14 : (⟨k0_dev14 c, k0_dev14_lt c⟩ : Dev nD) = nb (dim (0, 5)) c := by revert c; decide +kernel
/-- Message 5 of half B goes to the neighbour along its direction. -/
theorem dev15 : (⟨k0_dev15 c, k0_dev15_lt c⟩ : Dev nD) = nb (dim (1, 5)) c := by revert c; decide +kernel
/-- Message 6 of half A goes to the neighbour along its direction. -/
theorem dev16 : (⟨k0_dev16 c, k0_dev16_lt c⟩ : Dev nD) = nb (dim (0, 6)) c := by revert c; decide +kernel
/-- Message 6 of half B goes to the neighbour along its direction. -/
theorem dev17 : (⟨k0_dev17 c, k0_dev17_lt c⟩ : Dev nD) = nb (dim (1, 6)) c := by revert c; decide +kernel

/-! The rows of the stores. A family of offsets serves the messages that travelled the same directions. -/

/-- Equal offsets are decided at each of the two axes. -/
theorem off_ext {a b : Fin 2 → ℕ} (h : a 0 = b 0 ∧ a 1 = b 1) : a = b := by
  funext i; match i with | 0 => exact h.1 | 1 => exact h.2

/-- The first row of the block that message `j`'s rows make. -/
abbrev rowOf (j : Msg) : Fin 2 → ℕ := ![512 * (org j c).val + 256 * j.1.val, 0]

/-- The product of message 0 of half A is stored at its rows. -/
theorem off_A0 : k0_off2 c 0#32 = rowOf c (0, 0) := off_ext (by revert c; decide +kernel)
/-- The product of message 0 of half B is stored at its rows. -/
theorem off_B0 : k0_off3 c 256#32 = rowOf c (1, 0) := off_ext (by revert c; decide +kernel)
/-- The product of message 1 of half A is stored at its rows. -/
theorem off_A1 : k0_off4 c 0#32 = rowOf c (0, 1) := off_ext (by revert c; decide +kernel)
/-- The product of message 1 of half B is stored at its rows. -/
theorem off_B1 : k0_off4 c 256#32 = rowOf c (1, 1) := off_ext (by revert c; decide +kernel)
/-- The product of message 2 of half A is stored at its rows. -/
theorem off_A2 : k0_off5 c 0#32 = rowOf c (0, 2) := off_ext (by revert c; decide +kernel)
/-- The product of message 2 of half B is stored at its rows. -/
theorem off_B2 : k0_off7 c 256#32 = rowOf c (1, 2) := off_ext (by revert c; decide +kernel)
/-- The product of message 3 of half A is stored at its rows. -/
theorem off_A3 : k0_off3 c 0#32 = rowOf c (0, 3) := off_ext (by revert c; decide +kernel)
/-- The product of message 3 of half B is stored at its rows. -/
theorem off_B3 : k0_off2 c 256#32 = rowOf c (1, 3) := off_ext (by revert c; decide +kernel)
/-- The product of message 4 of half A is stored at its rows. -/
theorem off_A4 : k0_off6 c 0#32 = rowOf c (0, 4) := off_ext (by revert c; decide +kernel)
/-- The product of message 4 of half B is stored at its rows. -/
theorem off_B4 : k0_off6 c 256#32 = rowOf c (1, 4) := off_ext (by revert c; decide +kernel)
/-- The product of message 5 of half A is stored at its rows. -/
theorem off_A5 : k0_off7 c 0#32 = rowOf c (0, 5) := off_ext (by revert c; decide +kernel)
/-- The product of message 5 of half B is stored at its rows. -/
theorem off_B5 : k0_off5 c 256#32 = rowOf c (1, 5) := off_ext (by revert c; decide +kernel)
/-- The product of message 6 of half A is stored at its rows. -/
theorem off_A6 : k0_off8 c 0#32 = rowOf c (0, 6) := off_ext (by revert c; decide +kernel)
/-- The product of message 6 of half B is stored at its rows. -/
theorem off_B6 : k0_off8 c 256#32 = rowOf c (1, 6) := off_ext (by revert c; decide +kernel)

end Cert.Cube
-- ==== Proof.Parts.lean ====
/-
# The pieces of the kernel after the barrier

The kernel is printed in pieces. Each piece takes the state from the counts of sends, arrivals, send waits and finished
blocks before it to the counts after it, by one step per memory operation.
-/
module

public import proofs.«01_k».proof.Proof.Out
public import proofs.«01_k».proof.Proof.Places

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A piece of the kernel at the launch's buffers and semaphores. -/
abbrev atArgs {β : Type*} (p : (a0 : Memref sig .tc .vmem S512x4096 .i8) → a0.IsWhole → (a1 : Memref sig .tc .vmem S4096x256 .i8) → a1.IsWhole →
    (a2 : Memref sig .tc .smem S1 .f32) → a2.IsWhole → (a3 : Memref sig .tc .smem S1 .f32) → a3.IsWhole →
    (a4 : Memref sig .tc .vmem S4096x256 .f32) → a4.IsWhole → (a5 : Memref sig .tc .vmem S7x256x4096 .i8) → a5.IsWhole →
    (a6 : Memref sig .tc .vmem S7x256x4096 .i8) → a6.IsWhole → DmaSems sig S7 → DmaSems sig S7 → DmaSems sig S7 → DmaSems sig S7 → β) : β :=
  p xM (hstage0_0 0) wM (hstage0_1 0) sxM (hstage0_2 0) swM (hstage0_3 0) oM (hstage0_4 0)
    (Memref.whole cc0_scratch0) (Memref.isWhole_whole _) (Memref.whole cc0_scratch1) (Memref.isWhole_whole _) cc0_scratch2 cc0_scratch3 cc0_scratch4 cc0_scratch5

/-- The state between two pieces, at the counts of sends, arrivals, send waits and finished blocks. -/
def At (ns nr nw ng : ℕ) : sProp 𝕄 := iprop(St m K c ns nr nw ∗ Mem m c ng)

/-! ## Several operations at once -/

variable {α : Type}

/-- The end of a piece. -/
theorem step_ret {a : α} {Q : α → sProp 𝕄} : Q a ⊢ WP c (.ret a) Q := by
  rw [show WP c (.ret a) Q = _ from wp_ret ..]
  iintro H; imodintro; iexact H

/-- A block's finish: the read that nothing uses, and the store of the block. -/
theorem step_dst (j : Msg) {ng : ℕ} (hg : ridx j + 1 = ng) {off : Fin 2 → ℕ} (hoff : off = rowOf c j) {inb} {w : FVec F S256x256 .f32}
    (hw : w = tile m c j.1 (org j c)) {hl hx hm} {k : PUnit → Prog (TpuEff nD τ sig (Elt F) Λ₀ .tc) α} {Q : α → sProp 𝕄} :
    Mem m c ng ⊢ iprop((Mem m c (ng + 1) -∗ WP c (k ⟨⟩) Q)
      -∗ WP c (.op (.load oM (Rect.unit (s := S4096x256) off S256x256.size inb).toLoadRect hl) fun _ =>
        .op (.store oM (Rect.unit (s := S4096x256) off S256x256.size inb) w Finset.univ hx hm) k) Q) := by
  iintro HM Hk
  iapply (step_dead m c) $$ HM; iintro %v HM
  iapply (step_tile m c j hg hoff hw) $$ HM
  iexact Hk

/-- A block's end: the columns are read, then the block is finished. -/
theorem step_tail (j : Msg) {ng : ℕ} (hg : ridx j + 1 = ng) {off : Fin 2 → ℕ} (hoff : off = rowOf c j) {inb inw}
    {p : Vec F S4096x256 .i8 → FVec F S256x256 .f32} (hp : p (wstg m c) = tile m c j.1 (org j c)) {hl hw hx hm}
    {k : PUnit → Prog (TpuEff nD τ sig (Elt F) Λ₀ .tc) α} {Q : α → sProp 𝕄} :
    Mem m c ng ⊢ iprop((Mem m c (ng + 1) -∗ WP c (k ⟨⟩) Q)
      -∗ WP c (.op (.load wM (Rect.unit (s := S4096x256) ![0, 0] S4096x256.size inw).toLoadRect hw) fun w =>
        .op (.load oM (Rect.unit (s := S4096x256) off S256x256.size inb).toLoadRect hl) fun _ =>
        .op (.store oM (Rect.unit (s := S4096x256) off S256x256.size inb) (p w) Finset.univ hx hm) k) Q) := by
  iintro HM Hk
  iapply (step_w m c) $$ HM; iintro HM
  iapply (step_dst m c j hg hoff hp) $$ HM
  iexact Hk

/-- A whole block: an arrived message is read, then the block's end. -/
theorem step_gemm (j : Msg) {ns nr nw ng : ℕ} (hr : ridx j < nr) (hg : ridx j + 1 = ng) {B : Memref sig .tc .vmem S7x256x4096 .i8} (hB : B = bM j.1)
    {off : Fin 2 → ℕ} (hoff : off = rowOf c j) {inb inw}
    {p : Vec F S1x256x4096 .i8 → Vec F S4096x256 .i8 → FVec F S256x256 .f32} (hp : p (ldC m c j) (wstg m c) = tile m c j.1 (org j c)) {hb hl hw hx hm}
    {k : PUnit → Prog (TpuEff nD τ sig (Elt F) Λ₀ .tc) α} {Q : α → sProp 𝕄} :
    St m K c ns nr nw ⊢ iprop(Mem m c ng -∗ (St m K c ns nr nw -∗ Mem m c (ng + 1) -∗ WP c (k ⟨⟩) Q)
      -∗ WP c (.op (.load B (slotR j.2).toLoadRect hb) fun v =>
        .op (.load wM (Rect.unit (s := S4096x256) ![0, 0] S4096x256.size inw).toLoadRect hw) fun w =>
        .op (.load oM (Rect.unit (s := S4096x256) off S256x256.size inb).toLoadRect hl) fun _ =>
        .op (.store oM (Rect.unit (s := S4096x256) off S256x256.size inb) (p v w) Finset.univ hx hm) k) Q) := by
  iintro HS HM Hk
  iapply (step_read m K c j hr hB) $$ HS; iintro HS
  iapply (step_tail m c j hg hoff hp) $$ HM
  iapply Hk $$ HS

/-! ## The pieces -/

/-- The sends of the own rows along the first two directions, and one along the last. -/
theorem part4 (v63 v70 : BitVec 32) :
    At m K c 1 0 0 0 ⊢ WP c (atArgs (k0_part4_skel (F := F)) c v63 v70) (fun _ => At m K c 5 0 0 0) := by
  unfold k0_part4_skel
  simp only [Prog.lift, Prog.bind_op, Prog.bind_ret, Prog.pure_eq_ret, Prog.bind_assoc]
  unfold At
  iintro ⟨HS, HM⟩
  iapply (step_send m K c (1, 0) (ns := 1) (nr := 0) (nw := 0) rfl rfl (Nat.zero_le _) (dev5 c) rfl rfl rfl rfl) $$ HS; iintro HS
  iapply (step_send m K c (0, 1) (ns := 2) (nr := 0) (nw := 0) rfl rfl (Nat.zero_le _) (dev6 c) rfl rfl rfl rfl) $$ HS; iintro HS
  iapply (step_send m K c (1, 1) (ns := 3) (nr := 0) (nw := 0) rfl rfl (Nat.zero_le _) (dev7 c) rfl rfl rfl rfl) $$ HS; iintro HS
  iapply (step_send m K c (1, 3) (ns := 4) (nr := 0) (nw := 0) rfl rfl (Nat.zero_le _) (dev8 c) rfl rfl rfl rfl) $$ HS; iintro HS
  iapply (step_ret c)
  isplitl [HS] <;> iassumption

/-- The last send of the own rows, the own rows' product, the first arrival. -/
theorem part5 (v2 v63 v70 v77 : BitVec 32) :
    At m K c 5 0 0 0 ⊢ WP c (atArgs (k0_part5_skel (F := F)) c v2 v63 v70 v77 (sc m c)) (fun _ => At m K c 6 1 0 1) := by
  unfold k0_part5_skel
  simp only [Prog.lift, Prog.bind_op, Prog.bind_ret, Prog.pure_eq_ret, Prog.bind_assoc]
  unfold At
  iintro ⟨HS, HM⟩
  iapply (step_send m K c (0, 3) (ns := 5) (nr := 0) (nw := 0) rfl rfl (Nat.zero_le _) (dev9 c) rfl rfl rfl rfl) $$ HS; iintro HS
  iapply (step_x m c) $$ HM; iintro HM
  iapply (step_w m c) $$ HM; iintro HM
  iapply (step_dead m c) $$ HM; iintro %v HM
  iapply (step_own m c (k0_off1_eq c) rfl) $$ HM; iintro HM
  iapply (step_recv m K c (0, 0) (ns := 6) (nr := 0) (nw := 0) rfl (by decide) (by decide) rfl (credit_slot (0, 0))) $$ HS; iintro HS
  iapply (step_ret c)
  isplitl [HS] <;> iassumption

/-- Forwards of the first arrival, and the second. -/
theorem part6 (v70 v77 v160 : BitVec 32) :
    At m K c 6 1 0 1 ⊢ WP c (atArgs (k0_part6_skel (F := F)) c v70 v77 v160) (fun _ => At m K c 8 2 0 1) := by
  unfold k0_part6_skel
  simp only [Prog.lift, Prog.bind_op, Prog.bind_ret, Prog.pure_eq_ret, Prog.bind_assoc]
  unfold At
  iintro ⟨HS, HM⟩
  iapply (step_send m K c (0, 2) (ns := 6) (nr := 1) (nw := 0) rfl rfl (Nat.zero_le _) (dev10 c) rfl rfl rfl rfl) $$ HS; iintro HS
  iapply (step_send m K c (0, 4) (ns := 7) (nr := 1) (nw := 0) rfl rfl (Nat.zero_le _) (dev11 c) rfl rfl rfl rfl) $$ HS; iintro HS
  iapply (step_recv m K c (1, 0) (ns := 8) (nr := 1) (nw := 0) rfl (by decide) (by decide) rfl (credit_slot (1, 0))) $$ HS; iintro HS
  iapply (step_ret c)
  isplitl [HS] <;> iassumption

/-- Forwards of the second arrival, and the third. -/
theorem part7 (v63 v70 v77 v187 c0 : BitVec 32) :
    At m K c 8 2 0 1 ⊢ WP c (atArgs (k0_part7_skel (F := F)) c v63 v70 v77 v187 c0) (fun _ => At m K c 10 3 0 1) := by
  unfold k0_part7_skel
  simp only [Prog.lift, Prog.bind_op, Prog.bind_ret, Prog.pure_eq_ret, Prog.bind_assoc]
  unfold At
  iintro ⟨HS, HM⟩
  iapply (step_send m K c (1, 2) (ns := 8) (nr := 2) (nw := 0) rfl rfl (Nat.zero_le _) (dev12 c) rfl rfl rfl rfl) $$ HS; iintro HS
  iapply (step_send m K c (1, 4) (ns := 9) (nr := 2) (nw := 0) rfl rfl (Nat.zero_le _) (dev13 c) rfl rfl rfl rfl) $$ HS; iintro HS
  iapply (step_recv m K c (0, 1) (ns := 10) (nr := 2) (nw := 0) rfl (by decide) (by decide) rfl (credit_slot (0, 1))) $$ HS; iintro HS
  iapply (step_ret c)
  isplitl [HS] <;> iassumption

/-- A forward, the first message's block, and the read of the second message. -/
theorem part8 (v19 v39 v56 : BitVec 32) :
    At m K c 10 3 0 1 ⊢ WP c (atArgs (k0_part8_skel (F := F)) c v19 v39 v56 (sc m c)) (fun r => iprop(⌜r.1 = k0_pay4 (ldC m c (1, 0))⌝ ∗ At m K c 11 3 0 2)) := by
  unfold k0_part8_skel
  simp only [Prog.lift, Prog.bind_op, Prog.bind_ret, Prog.pure_eq_ret, Prog.bind_assoc]
  unfold At
  iintro ⟨HS, HM⟩
  iapply (step_send m K c (0, 5) (ns := 10) (nr := 3) (nw := 0) rfl rfl (Nat.zero_le _) (dev14 c) rfl rfl rfl rfl) $$ HS; iintro HS
  iapply (step_gemm m K c (0, 0) (nr := 3) (ng := 1) (by decide) rfl rfl (off_A0 c) (p := k0_pay3 (sc m c)) (tile_of_slot m c (0, 0))) $$ HS HM; iintro HS HM
  iapply (step_read m K c (1, 0) (nr := 3) (by decide) rfl) $$ HS; iintro HS
  iapply (step_ret c)
  isplitr; · (ipureintro; exact rfl)
  isplitl [HS] <;> iassumption

/-- Two blocks. -/
theorem part9 (v19 v39 v56 v70  v247 v249 : BitVec 32) :
    At m K c 11 3 0 2 ⊢ WP c (atArgs (k0_part9_skel (F := F)) c v19 v39 v56 v70 (sc m c) (k0_pay4 (ldC m c (1, 0))) v247 v249) (fun _ => At m K c 11 3 0 4) := by
  unfold k0_part9_skel
  simp only [Prog.lift, Prog.bind_op, Prog.bind_ret, Prog.pure_eq_ret, Prog.bind_assoc]
  unfold At
  iintro ⟨HS, HM⟩
  iapply (step_tail m c (1, 0) (ng := 2) rfl (off_B0 c) (p := k0_pay5 (sc m c) (k0_pay4 (ldC m c (1, 0)))) (tile_of_slot m c (1, 0))) $$ HM; iintro HM
  iapply (step_gemm m K c (0, 1) (nr := 3) (ng := 3) (by decide) rfl rfl (off_A1 c) (p := k0_pay6 (sc m c)) (tile_of_slot m c (0, 1))) $$ HS HM; iintro HS HM
  iapply (step_ret c)
  isplitl [HS] <;> iassumption

/-- An arrival, its forward, and an arrival. -/
theorem part10 (v63 v77 : BitVec 32) :
    At m K c 11 3 0 4 ⊢ WP c (atArgs (k0_part10_skel (F := F)) c v63 v77) (fun _ => At m K c 12 5 0 4) := by
  unfold k0_part10_skel
  simp only [Prog.lift, Prog.bind_op, Prog.bind_ret, Prog.pure_eq_ret, Prog.bind_assoc]
  unfold At
  iintro ⟨HS, HM⟩
  iapply (step_recv m K c (1, 1) (ns := 11) (nr := 3) (nw := 0) rfl (by decide) (by decide) rfl (credit_slot (1, 1))) $$ HS; iintro HS
  iapply (step_send m K c (1, 5) (ns := 11) (nr := 4) (nw := 0) rfl rfl (Nat.zero_le _) (dev15 c) rfl rfl rfl rfl) $$ HS; iintro HS
  iapply (step_recv m K c (1, 3) (ns := 12) (nr := 4) (nw := 0) rfl (by decide) (by decide) rfl (credit_slot (1, 3))) $$ HS; iintro HS
  iapply (step_ret c)
  isplitl [HS] <;> iassumption

/-- An arrival, a block, and the reads for the next. -/
theorem part11 (v19 v39 v56 : BitVec 32) :
    At m K c 12 5 0 4 ⊢ WP c (atArgs (k0_part11_skel (F := F)) c v19 v39 v56 (sc m c)) (fun r => iprop(⌜r.1 = k0_pay8 (ldC m c (1, 3)) ∧ r.2.2 = wstg m c⌝ ∗ At m K c 12 6 0 5)) := by
  unfold k0_part11_skel
  simp only [Prog.lift, Prog.bind_op, Prog.bind_ret, Prog.pure_eq_ret, Prog.bind_assoc]
  unfold At
  iintro ⟨HS, HM⟩
  iapply (step_recv m K c (0, 3) (ns := 12) (nr := 5) (nw := 0) rfl (by decide) (by decide) rfl (credit_slot (0, 3))) $$ HS; iintro HS
  iapply (step_gemm m K c (1, 1) (nr := 6) (ng := 4) (by decide) rfl rfl (off_B1 c) (p := k0_pay7 (sc m c)) (tile_of_slot m c (1, 1))) $$ HS HM; iintro HS HM
  iapply (step_read m K c (1, 3) (nr := 6) (by decide) rfl) $$ HS; iintro HS
  iapply (step_w m c) $$ HM; iintro HM
  iapply (step_ret c)
  isplitr; · (ipureintro; exact ⟨rfl, rfl⟩)
  isplitl [HS] <;> iassumption

/-- Two blocks. -/
theorem part12 (v19 v39 v56 v70  v341 : BitVec 32) :
    At m K c 12 6 0 5 ⊢ WP c (atArgs (k0_part12_skel (F := F)) c v19 v39 v56 v70 (sc m c) (k0_pay8 (ldC m c (1, 3))) v341 (wstg m c)) (fun _ => At m K c 12 6 0 7) := by
  unfold k0_part12_skel
  simp only [Prog.lift, Prog.bind_op, Prog.bind_ret, Prog.pure_eq_ret, Prog.bind_assoc]
  unfold At
  iintro ⟨HS, HM⟩
  iapply (step_dst m c (1, 3) (ng := 5) rfl (off_B3 c) (w := k0_pay9 (sc m c) (k0_pay8 (ldC m c (1, 3))) (wstg m c)) (tile_of_slot m c (1, 3))) $$ HM; iintro HM
  iapply (step_gemm m K c (0, 3) (nr := 6) (ng := 6) (by decide) rfl rfl (off_A3 c) (p := k0_pay10 (sc m c)) (tile_of_slot m c (0, 3))) $$ HS HM; iintro HS HM
  iapply (step_ret c)
  isplitl [HS] <;> iassumption

/-- An arrival, its forward, and an arrival. -/
theorem part13 (v63 v77 : BitVec 32) :
    At m K c 12 6 0 7 ⊢ WP c (atArgs (k0_part13_skel (F := F)) c v63 v77) (fun _ => At m K c 13 8 0 7) := by
  unfold k0_part13_skel
  simp only [Prog.lift, Prog.bind_op, Prog.bind_ret, Prog.pure_eq_ret, Prog.bind_assoc]
  unfold At
  iintro ⟨HS, HM⟩
  iapply (step_recv m K c (0, 2) (ns := 12) (nr := 6) (nw := 0) rfl (by decide) (by decide) rfl (credit_slot (0, 2))) $$ HS; iintro HS
  iapply (step_send m K c (0, 6) (ns := 12) (nr := 7) (nw := 0) rfl rfl (Nat.zero_le _) (dev16 c) rfl rfl rfl rfl) $$ HS; iintro HS
  iapply (step_recv m K c (1, 4) (ns := 13) (nr := 7) (nw := 0) rfl (by decide) (by decide) rfl (credit_slot (1, 4))) $$ HS; iintro HS
  iapply (step_ret c)
  isplitl [HS] <;> iassumption

/-- An arrival, a block, and the read for the next. -/
theorem part14 (v19 v39 v56 : BitVec 32) :
    At m K c 13 8 0 7 ⊢ WP c (atArgs (k0_part14_skel (F := F)) c v19 v39 v56 (sc m c)) (fun r => iprop(⌜r.1 = k0_pay12 (ldC m c (1, 4))⌝ ∗ At m K c 13 9 0 8)) := by
  unfold k0_part14_skel
  simp only [Prog.lift, Prog.bind_op, Prog.bind_ret, Prog.pure_eq_ret, Prog.bind_assoc]
  unfold At
  iintro ⟨HS, HM⟩
  iapply (step_recv m K c (0, 4) (ns := 13) (nr := 8) (nw := 0) rfl (by decide) (by decide) rfl (credit_slot (0, 4))) $$ HS; iintro HS
  iapply (step_gemm m K c (0, 2) (nr := 9) (ng := 7) (by decide) rfl rfl (off_A2 c) (p := k0_pay11 (sc m c)) (tile_of_slot m c (0, 2))) $$ HS HM; iintro HS HM
  iapply (step_read m K c (1, 4) (nr := 9) (by decide) rfl) $$ HS; iintro HS
  iapply (step_ret c)
  isplitr; · (ipureintro; exact rfl)
  isplitl [HS] <;> iassumption

/-- Two blocks. -/
theorem part15 (v19 v39 v56 v70  v434 : BitVec 32) :
    At m K c 13 9 0 8 ⊢ WP c (atArgs (k0_part15_skel (F := F)) c v19 v39 v56 v70 (sc m c) (k0_pay12 (ldC m c (1, 4))) v434) (fun _ => At m K c 13 9 0 10) := by
  unfold k0_part15_skel
  simp only [Prog.lift, Prog.bind_op, Prog.bind_ret, Prog.pure_eq_ret, Prog.bind_assoc]
  unfold At
  iintro ⟨HS, HM⟩
  iapply (step_tail m c (1, 4) (ng := 8) rfl (off_B4 c) (p := k0_pay13 (sc m c) (k0_pay12 (ldC m c (1, 4)))) (tile_of_slot m c (1, 4))) $$ HM; iintro HM
  iapply (step_gemm m K c (0, 4) (nr := 9) (ng := 9) (by decide) rfl rfl (off_A4 c) (p := k0_pay14 (sc m c)) (tile_of_slot m c (0, 4))) $$ HS HM; iintro HS HM
  iapply (step_ret c)
  isplitl [HS] <;> iassumption

/-- An arrival, its forward, and an arrival. -/
theorem part16 (v63 v77 : BitVec 32) :
    At m K c 13 9 0 10 ⊢ WP c (atArgs (k0_part16_skel (F := F)) c v63 v77) (fun _ => At m K c 14 11 0 10) := by
  unfold k0_part16_skel
  simp only [Prog.lift, Prog.bind_op, Prog.bind_ret, Prog.pure_eq_ret, Prog.bind_assoc]
  unfold At
  iintro ⟨HS, HM⟩
  iapply (step_recv m K c (1, 2) (ns := 13) (nr := 9) (nw := 0) rfl (by decide) (by decide) rfl (credit_slot (1, 2))) $$ HS; iintro HS
  iapply (step_send m K c (1, 6) (ns := 13) (nr := 10) (nw := 0) rfl rfl (Nat.zero_le _) (dev17 c) rfl rfl rfl rfl) $$ HS; iintro HS
  iapply (step_recv m K c (1, 5) (ns := 14) (nr := 10) (nw := 0) rfl (by decide) (by decide) rfl (credit_slot (1, 5))) $$ HS; iintro HS
  iapply (step_ret c)
  isplitl [HS] <;> iassumption

/-- An arrival, a block, and the read for the next. -/
theorem part17 (v19 v39 v56 : BitVec 32) :
    At m K c 14 11 0 10 ⊢ WP c (atArgs (k0_part17_skel (F := F)) c v19 v39 v56 (sc m c)) (fun r => iprop(⌜r.1 = k0_pay16 (ldC m c (1, 5))⌝ ∗ At m K c 14 12 0 11)) := by
  unfold k0_part17_skel
  simp only [Prog.lift, Prog.bind_op, Prog.bind_ret, Prog.pure_eq_ret, Prog.bind_assoc]
  unfold At
  iintro ⟨HS, HM⟩
  iapply (step_recv m K c (0, 5) (ns := 14) (nr := 11) (nw := 0) rfl (by decide) (by decide) rfl (credit_slot (0, 5))) $$ HS; iintro HS
  iapply (step_gemm m K c (1, 2) (nr := 12) (ng := 10) (by decide) rfl rfl (off_B2 c) (p := k0_pay15 (sc m c)) (tile_of_slot m c (1, 2))) $$ HS HM; iintro HS HM
  iapply (step_read m K c (1, 5) (nr := 12) (by decide) rfl) $$ HS; iintro HS
  iapply (step_ret c)
  isplitr; · (ipureintro; exact rfl)
  isplitl [HS] <;> iassumption

/-- Two blocks. -/
theorem part18 (v19 v39 v56 v77  v527 c256 : BitVec 32) :
    At m K c 14 12 0 11 ⊢ WP c (atArgs (k0_part18_skel (F := F)) c v19 v39 v56 v77 (sc m c) (k0_pay16 (ldC m c (1, 5))) v527 c256) (fun _ => At m K c 14 12 0 13) := by
  unfold k0_part18_skel
  simp only [Prog.lift, Prog.bind_op, Prog.bind_ret, Prog.pure_eq_ret, Prog.bind_assoc]
  unfold At
  iintro ⟨HS, HM⟩
  iapply (step_tail m c (1, 5) (ng := 11) rfl (off_B5 c) (p := k0_pay17 (sc m c) (k0_pay16 (ldC m c (1, 5)))) (tile_of_slot m c (1, 5))) $$ HM; iintro HM
  iapply (step_gemm m K c (0, 5) (nr := 12) (ng := 12) (by decide) rfl rfl (off_A5 c) (p := k0_pay18 (sc m c)) (tile_of_slot m c (0, 5))) $$ HS HM; iintro HS HM
  iapply (step_ret c)
  isplitl [HS] <;> iassumption

/-- The last two arrivals, and the next block's value. -/
theorem part19 (v19 v39 v56 v63 : BitVec 32) :
    At m K c 14 12 0 13 ⊢ WP c (atArgs (k0_part19_skel (F := F)) v19 v39 v56 v63 (sc m c)) (fun r => iprop(⌜r.2 = tile m c 0 (org (0, 6) c)⌝ ∗ At m K c 14 14 0 13)) := by
  unfold k0_part19_skel
  simp only [Prog.lift, Prog.bind_op, Prog.bind_ret, Prog.pure_eq_ret, Prog.bind_assoc]
  unfold At
  iintro ⟨HS, HM⟩
  iapply (step_recv m K c (0, 6) (ns := 14) (nr := 12) (nw := 0) rfl (by decide) (by decide) rfl (credit_slot (0, 6))) $$ HS; iintro HS
  iapply (step_recv m K c (1, 6) (ns := 14) (nr := 13) (nw := 0) rfl (by decide) (by decide) rfl (credit_slot (1, 6))) $$ HS; iintro HS
  iapply (step_read m K c (0, 6) (nr := 14) (by decide) rfl) $$ HS; iintro HS
  iapply (step_w m c) $$ HM; iintro HM
  iapply (step_ret c)
  isplitr; · (ipureintro; exact tile_of_slot m c (0, 6))
  isplitl [HS] <;> iassumption

/-- The last two blocks, and the first send's end. -/
theorem part20 (v19 v39 v56 v585 : BitVec 32) :
    At m K c 14 14 0 13 ⊢ WP c (atArgs (k0_part20_skel (F := F)) c v19 v39 v56 (sc m c) v585 (tile m c 0 (org (0, 6) c))) (fun _ => At m K c 14 14 1 15) := by
  unfold k0_part20_skel
  simp only [Prog.lift, Prog.bind_op, Prog.bind_ret, Prog.pure_eq_ret, Prog.bind_assoc]
  unfold At
  iintro ⟨HS, HM⟩
  iapply (step_dst m c (0, 6) (ng := 13) rfl (off_A6 c) rfl) $$ HM; iintro HM
  iapply (step_gemm m K c (1, 6) (nr := 14) (ng := 14) (by decide) rfl rfl (off_B6 c) (p := k0_pay20 (sc m c)) (tile_of_slot m c (1, 6))) $$ HS HM; iintro HS HM
  iapply (step_swait m K c (0, 0) (ns := 14) (nr := 14) (nw := 0) rfl (by decide) rfl (by decide) rfl (credit_half 0)) $$ HS; iintro HS
  iapply (step_ret c)
  isplitl [HS] <;> iassumption

/-- Ends of sends. -/
theorem part21 :
    At m K c 14 14 1 15 ⊢ WP c (atArgs (k0_part21_skel (F := F))) (fun _ => At m K c 14 14 5 15) := by
  unfold k0_part21_skel
  simp only [Prog.lift, Prog.bind_op, Prog.bind_ret, Prog.pure_eq_ret, Prog.bind_assoc]
  unfold At
  iintro ⟨HS, HM⟩
  iapply (step_swait m K c (1, 0) (ns := 14) (nr := 14) (nw := 1) rfl (by decide) rfl (by decide) rfl (credit_half 1)) $$ HS; iintro HS
  iapply (step_swait m K c (0, 1) (ns := 14) (nr := 14) (nw := 2) rfl (by decide) rfl (by decide) rfl (credit_half 0)) $$ HS; iintro HS
  iapply (step_swait m K c (1, 1) (ns := 14) (nr := 14) (nw := 3) rfl (by decide) rfl (by decide) rfl (credit_half 1)) $$ HS; iintro HS
  iapply (step_swait m K c (0, 2) (ns := 14) (nr := 14) (nw := 4) rfl (by decide) rfl (by decide) rfl (credit_slot (0, 0))) $$ HS; iintro HS
  iapply (step_ret c)
  isplitl [HS] <;> iassumption

/-- Ends of sends. -/
theorem part22 :
    At m K c 14 14 5 15 ⊢ WP c (atArgs (k0_part22_skel (F := F))) (fun _ => At m K c 14 14 9 15) := by
  unfold k0_part22_skel
  simp only [Prog.lift, Prog.bind_op, Prog.bind_ret, Prog.pure_eq_ret, Prog.bind_assoc]
  unfold At
  iintro ⟨HS, HM⟩
  iapply (step_swait m K c (1, 2) (ns := 14) (nr := 14) (nw := 5) rfl (by decide) rfl (by decide) rfl (credit_slot (1, 0))) $$ HS; iintro HS
  iapply (step_swait m K c (0, 3) (ns := 14) (nr := 14) (nw := 6) rfl (by decide) rfl (by decide) rfl (credit_half 0)) $$ HS; iintro HS
  iapply (step_swait m K c (1, 3) (ns := 14) (nr := 14) (nw := 7) rfl (by decide) rfl (by decide) rfl (credit_half 1)) $$ HS; iintro HS
  iapply (step_swait m K c (0, 4) (ns := 14) (nr := 14) (nw := 8) rfl (by decide) rfl (by decide) rfl (credit_slot (0, 0))) $$ HS; iintro HS
  iapply (step_ret c)
  isplitl [HS] <;> iassumption

/-- Ends of sends. -/
theorem part23 :
    At m K c 14 14 9 15 ⊢ WP c (atArgs (k0_part23_skel (F := F))) (fun _ => At m K c 14 14 13 15) := by
  unfold k0_part23_skel
  simp only [Prog.lift, Prog.bind_op, Prog.bind_ret, Prog.pure_eq_ret, Prog.bind_assoc]
  unfold At
  iintro ⟨HS, HM⟩
  iapply (step_swait m K c (1, 4) (ns := 14) (nr := 14) (nw := 9) rfl (by decide) rfl (by decide) rfl (credit_slot (1, 0))) $$ HS; iintro HS
  iapply (step_swait m K c (0, 5) (ns := 14) (nr := 14) (nw := 10) rfl (by decide) rfl (by decide) rfl (credit_slot (0, 1))) $$ HS; iintro HS
  iapply (step_swait m K c (1, 5) (ns := 14) (nr := 14) (nw := 11) rfl (by decide) rfl (by decide) rfl (credit_slot (1, 1))) $$ HS; iintro HS
  iapply (step_swait m K c (0, 6) (ns := 14) (nr := 14) (nw := 12) rfl (by decide) rfl (by decide) rfl (credit_slot (0, 2))) $$ HS; iintro HS
  iapply (step_ret c)
  isplitl [HS] <;> iassumption

end Cert.Cube
-- ==== Proof.Begin.lean ====
/-
# The kernel's beginning and its end

At the barrier each device hands its slots to the neighbours that will send into them and gets theirs; then the scales are
read and the first message is sent. At the end all cells are closed and the slots are whole again.
-/
module

public import proofs.«01_k».proof.Proof.Parts

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type}

/-! ## What a device starts from -/

/-- The tokens a device pays with: a barrier unit at each neighbour, and for each message its send and its arrival. -/
def payToks : sProp 𝕄 :=
  iprop((bigSep Finset.univ fun d : Fin 3 => dutyTok ER (barCell (nb d c)) 0 d)
    ∗ bigSep Finset.univ fun j : Msg => iprop(dutyTok ER (sCell c j) 0 (0 : Fin 3) ∗ dutyTok ER (rCell (nb (dim j) c) j) 0 (0 : Fin 3)))
/-- A device's places in its cells, all at their first round. -/
def places : sProp 𝕄 :=
  iprop(atPos ER (barCell c) 0 (∅ : Finset (Fin 3)) 0
    ∗ (bigSep Finset.univ fun j : Msg => atPos ER (sCell c j) 0 (∅ : Finset (Fin 3)) 0)
    ∗ bigSep Finset.univ fun j : Msg => atPos ER (rCell c j) 0 (∅ : Finset (Fin 3)) 0)
/-- What others owe a device: three units at the barrier and every arrival. -/
def dues : sProp 𝕄 :=
  iprop(cred (tallyAt (barCell c) () 3) ∗ bigSep Finset.univ fun j : Msg => cred (tallyAt (rCell c j) () N))

/-- The scales in the staging buffers. -/
def Sca : sProp 𝕄 :=
  iprop((((c : Thread nD τ).loc cc0_stg2_0) ↦{fullShare} sxstg m c) ∗ (((c : Thread nD τ).loc cc0_stg3_0) ↦{fullShare} swstg m c))

omit [FloatOps F] in
/-- A family over the three directions. -/
theorem three (Φ : Fin 3 → sProp 𝕄) : bigSep Finset.univ Φ = iprop(Φ 0 ∗ Φ 1 ∗ Φ 2) :=
  bigSep_univ_eq_bigSepL [(0 : Fin 3), 1, 2] (by decide) (by decide) Φ

/-! ## The barrier -/

/-- One signal of the barrier: the slots that the neighbour along `d` sends into go to it. -/
theorem step_signal (d : Fin 3) {e : Dev nD} (he : e = nb d c) {O O' : CellTallies nD τ sig Unit} (hO : O = O' + tallyAt (barCell (nb d c)) () 1)
    (W : Waits sig Unit) {Q : α → sProp 𝕄} {k : PUnit → Prog (TpuEff nD τ sig (Elt F) Λ₀ .tc) α} :
    iprop(records m K ∗ owes (c : Thread nD τ) O W ∗ dutyTok ER (barCell (nb d c)) 0 d ∗ barPay d (nb d c))
      ⊢ iprop((owes (c : Thread nD τ) O' W -∗ WP c (k ⟨⟩) Q) -∗ WP c (.op (.semSignal (e : Thread nD τ) barS ((1#32).toInt)) k) Q) := by
  subst he
  iintro ⟨#HR, HO, Ht, Hp⟩ Hk
  ihave #HI := (rec_inv m K (nb d c, none)) $$ HR
  ihave #HR' := (rec_reached m K (nb d c, none)) $$ HR
  iapply (Rounds.wp_signal 𝒱₀ ER (Rd m) (c : Thread nD τ) none (dst := (nb d c : Thread nD τ)) (κ := K (nb d c, none))
      (d := d) (by rw [duties_bar]; exact Finset.mem_univ _) ((amount_bar m (nb d c) d).trans (by decide)) () O' hO) $$ [HO Ht Hp]
  · isplitr; · iexact HI
    isplitl [HO]; · iexact HO
    isplitl [Ht]; · iexact Ht
    isplitl [Hp]; · rw [payload_bar]; iexact Hp
    iexact HR'
  iexact Hk

/-- The wait for the three units of the barrier: the neighbours' slots that the device sends into come with it. -/
theorem step_barrier {Q : α → sProp 𝕄} {k : PUnit → Prog (TpuEff nD τ sig (Elt F) Λ₀ .tc) α} (W : Waits sig Unit) :
    iprop(records m K ∗ levAts L lv ∗ cred (tallyAt (barCell c) () 3) ∗ owes (c : Thread nD τ) (Ow c 0) W ∗ atPos ER (barCell c) 0 (∅ : Finset (Fin 3)) 0)
      ⊢ iprop((((∃ W, owes (c : Thread nD τ) (Ow c 0) W) ∗ atPos ER (barCell c) 1 (∅ : Finset (Fin 3)) 0
            ∗ bigSep Finset.univ fun k : Msg => slotAny (F := F) k (nb (dim k) c)) -∗ WP c (k ⟨⟩) Q)
          -∗ WP c (.op (.semWait barS ((3#32).toInt)) k) Q) := by
  iintro ⟨#HR, #HL, Hc, HO, Hat⟩ Hk
  ihave #HI := (rec_inv m K (c, none)) $$ HR
  iapply (Rounds.wp_wait_rest_token 𝒱₀ ER (Rd m) (c : Thread nD τ) none (κ := K (c, none))
      (wpE_semWait_eq 𝒱₀ (c : Thread nD τ) none Set.univ) (Set.mem_univ _) () (O := Ow c 0) (W := W) (R := 0) (m := 0) (T := ∅)
      (by rw [expect_bar]; decide)) $$ [Hc HO Hat]
  · isplitr; · iexact HI
    isplitl [Hc]; · iexact Hc
    isplitl [HO]; · iexact HO
    isplitr; · iapply (mayWait_of c (.reg barS) 0 fun k _ => by rw [lv_bar]; exact lt_of_lt_of_le (by decide) (two_le_rank k)); iexact HL
    iexact Hat
  iintro ⟨HO, Hat, -, Hpay⟩
  iapply Hk
  isplitl [HO]; · iexists _; iexact HO
  isplitl [Hat]; · iexact Hat
  iapply (Entails.of_eq (rest_bar m c)); iexact Hpay

/-- The state before the first message. -/
theorem St_intro : iprop(records m K ∗ levAts L lv ∗ (∃ W, owes (c : Thread nD τ) (Ow c 0) W)
      ∗ (bigSep Finset.univ fun j : Msg => iprop(dutyTok ER (sCell c j) 0 (0 : Fin 3) ∗ dutyTok ER (rCell (nb (dim j) c) j) 0 (0 : Fin 3)))
      ∗ (bigSep Finset.univ fun k : Msg => slotAny (F := F) k (nb (dim k) c))
      ∗ (bigSep Finset.univ fun j : Msg => atPos ER (sCell c j) 0 (∅ : Finset (Fin 3)) 0)
      ∗ (bigSep Finset.univ fun j : Msg => atPos ER (rCell c j) 0 (∅ : Finset (Fin 3)) 0)
      ∗ (bigSep Finset.univ fun j : Msg => cred (tallyAt (rCell c j) () N)) ∗ fwd m none c) ⊢ St m K c 0 0 0 := by
  have h1 : (bigSep Finset.univ (sendRight (F := F) c 0)) = iprop((bigSep Finset.univ fun j : Msg => iprop(dutyTok ER (sCell c j) 0 (0 : Fin 3) ∗ dutyTok ER (rCell (nb (dim j) c) j) 0 (0 : Fin 3)))
      ∗ bigSep Finset.univ fun k : Msg => slotAny (F := F) k (nb (dim k) c)) := by
    rw [← bigSep_sep']
    refine bigSep_congr fun j _ => (if_neg (Nat.not_lt_zero _)).trans ?_
    exact eq_of_both ⟨by iintro ⟨A, B, C⟩; iframe, by iintro ⟨⟨A, B⟩, C⟩; iframe⟩
  have h2 : (bigSep Finset.univ (sendCell (F := F) c 0 0)) = bigSep Finset.univ fun j : Msg => atPos ER (sCell c j) 0 (∅ : Finset (Fin 3)) 0 :=
    bigSep_congr fun j _ => (if_neg (Nat.not_lt_zero _)).trans (by rw [if_neg (Nat.not_lt_zero _)]; exact equiv_iff.mp sep_emp)
  have h3 : (bigSep Finset.univ (recvCell m c 0)) = iprop((bigSep Finset.univ fun j : Msg => atPos ER (rCell c j) 0 (∅ : Finset (Fin 3)) 0)
      ∗ (bigSep Finset.univ fun j : Msg => cred (tallyAt (rCell c j) () N))) := by
    rw [← bigSep_sep']
    exact bigSep_congr fun j _ => if_neg (Nat.not_lt_zero _)
  have h4 : (bigSep Finset.univ (source m c 0 0 0)) = fwd m none c := by
    unfold fwd
    refine bigSep_congr fun j _ => ?_
    unfold source avail
    cases hp : parent j with
    | none => rw [if_pos ⟨rfl, .inl (Nat.zero_le _)⟩, if_pos rfl]
    | some p => rw [if_neg (fun h => by simpa using h.1), if_neg (fun h => by cases h)]
  unfold St
  rw [h1, h2, h3, h4]
  iintro ⟨H1, H2, H3, H4, H5, H6, H7, H8, H9⟩
  isplitl [H1]; · iexact H1
  isplitl [H2]; · iexact H2
  isplitl [H3]; · iexact H3
  isplitl [H4 H5]; · isplitl [H4] <;> iassumption
  isplitl [H6]; · iexact H6
  isplitl [H7 H8]; · isplitl [H7] <;> iassumption
  iexact H9

/-! ## The end -/

omit [FloatOps F] in
/-- A persistent fact serves every member of a family. -/
theorem each_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A cell past its round is closed. -/
theorem close_cell (k : CK) : iprop(records m K ∗ atPos ER (kcell (c, k)) 1 (∅ : Finset (Fin 3)) 0) ⊢ (|={Set.univ}=> semVal (kcell (c, k)) 0 : sProp 𝕄) := by
  iintro ⟨#HR, Hat⟩
  ihave #HI := (rec_inv m K (c, k)) $$ HR
  iapply (Rounds.cell_close ER (Rd m) (Set.mem_univ (K (c, k))) (fun h => h) (R := 0 + 1) (duties_later m (kcell (c, k))))
  isplitr; · iexact HI
  iexact Hat

/-- The cells of one kind are closed together. -/
theorem close_cells (b : Bool) : iprop(records m K ∗ bigSep Finset.univ fun j : Msg => atPos ER (kcell (c, some (b, j))) 1 (∅ : Finset (Fin 3)) 0)
    ⊢ (|={Set.univ}=> bigSep Finset.univ fun j : Msg => semVal (kcell (c, some (b, j))) 0 : sProp 𝕄) :=
  (each_with fun j _ => close_cell m K c (some (b, j))).trans (bigSep_fupd _ _)

/-- After all the waits nothing is owed, the sends' sources and the slots are back, and every cell but the barrier's can be closed. -/
theorem St_end : St m K c 14 14 14 ⊢ (|={Set.univ}=> iprop((∃ W, owes (c : Thread nD τ) 0 W)
      ∗ (bigSep Finset.univ fun j : Msg => semVal (sCell c j) 0) ∗ (bigSep Finset.univ fun j : Msg => semVal (rCell c j) 0)
      ∗ fwd m none c ∗ bigSep Finset.univ fun j : Msg => slotAny (F := F) j c) : sProp 𝕄) := by
  have h2 : (bigSep Finset.univ (sendCell (F := F) c 14 14)) = bigSep Finset.univ fun j : Msg => atPos ER (kcell (c, some (false, j))) 1 (∅ : Finset (Fin 3)) 0 :=
    bigSep_congr fun j _ => if_pos (widx_lt j)
  have h3 : (bigSep Finset.univ (recvCell m c 14)) = iprop((bigSep Finset.univ fun j : Msg => atPos ER (kcell (c, some (true, j))) 1 (∅ : Finset (Fin 3)) 0)
      ∗ bigSep Finset.univ fun j : Msg => slotPts m j (keep j) c) := by
    rw [← bigSep_sep']
    exact bigSep_congr fun j _ => if_pos (ridx_lt j)
  have h4 : (bigSep Finset.univ (source m c 14 14 14)) = iprop(fwd m none c ∗ bigSep Finset.univ fun j : Msg => fwd m (some j) c) := by
    rw [← fwd_all]
    refine bigSep_congr fun j _ => if_pos ⟨?_, .inr (widx_lt j)⟩
    unfold avail
    cases parent j with
    | none => rfl
    | some p => exact decide_eq_true (ridx_lt p)
  have h5 : iprop((bigSep Finset.univ fun j : Msg => slotPts m j (keep j) c) ∗ bigSep Finset.univ fun j : Msg => fwd m (some j) c)
      ⊢ (bigSep Finset.univ fun j : Msg => slotAny (F := F) j c : sProp 𝕄) := by
    have h (j : Msg) : iprop(slotPts m j (keep j) c ∗ fwd m (some j) c) ⊢ slotAny (F := F) j c := by
      rw [← slot_open]
      unfold slotPts slotAny
      iintro H; iexists _; iexact H
    rw [← bigSep_sep']
    exact bigSep_mono fun j _ => h j
  unfold St
  rw [h2, h3, h4, Ow_all c 14 (Nat.le_refl _)]
  iintro ⟨#HR, -, HO, -, Hs, ⟨Hr, Hk⟩, Hx, Hf⟩
  imod (close_cells m K c false) $$ [Hs] with Hs
  · isplitr; · iexact HR
    iexact Hs
  imod (close_cells m K c true) $$ [Hr] with Hr
  · isplitr; · iexact HR
    iexact Hr
  imodintro
  isplitl [HO]; · iexact HO
  isplitl [Hs]; · iexact Hs
  isplitl [Hr]; · iexact Hr
  isplitl [Hx]; · iexact Hx
  iapply h5
  isplitl [Hk] <;> iassumption

/-! ## The first pieces -/

/-- A program followed by another. -/
theorem step_part {β : Type} {p : Prog (TpuEff nD τ sig (Elt F) Λ₀ .tc) α} {k : α → Prog (TpuEff nD τ sig (Elt F) Λ₀ .tc) β}
    {P : sProp 𝕄} {R : α → sProp 𝕄} {Q : β → sProp 𝕄} (h : P ⊢ WP c p R) :
    P ⊢ iprop((∀ r, R r -∗ WP c (k r) Q) -∗ WP c (p >>= k) Q) := by
  rw [show WP c (p >>= k) Q = WP c p (fun a => WP c (k a) Q) from wp_bind ..]
  exact h.trans (wp_wand _ _ _)

/-- The first piece learns which device it runs on. -/
theorem part1 : (iprop(emp) : sProp 𝕄) ⊢ WP c (atArgs (k0_part1_skel (F := F))) (fun r => iprop(⌜r.1 = c⌝)) := by
  unfold k0_part1_skel
  simp only [Prog.lift, Prog.bind_op, Prog.bind_ret, Prog.pure_eq_ret, Prog.bind_assoc, wp_deviceId]
  iintro -
  iapply (step_ret c)
  ipureintro; rfl

/-- The second piece names the barrier's semaphore. -/
theorem part2 (v19 v20 v39 : BitVec 32) : (iprop(emp) : sProp 𝕄) ⊢ WP c (atArgs (k0_part2_skel (F := F)) v19 v20 v39)
    (fun r => iprop(⌜r.2.2.2.2.1 = SemArray.scalar barS⌝)) := by
  unfold k0_part2_skel
  simp only [Prog.pure_eq_ret]
  iintro -
  iapply (step_ret c)
  ipureintro; rfl

/-- The offset zero of one axis. -/
theorem zero1 : (![0] : Fin 1 → ℕ) = fun _ => 0 := funext fun i => by fin_cases i; rfl

/-- Reading the first scale. -/
theorem step_sx {inb} {hl} {k : (S1.Idx → Elt F .f32) → Prog (TpuEff nD τ sig (Elt F) Λ₀ .tc) α} {Q : α → sProp 𝕄} :
    (((c : Thread nD τ).loc cc0_stg2_0) ↦{fullShare} sxstg m c)
      ⊢ iprop(((((c : Thread nD τ).loc cc0_stg2_0) ↦{fullShare} sxstg m c) -∗ WP c (k (sxstg m c)) Q)
        -∗ WP c (.op (.load sxM (Rect.unit (s := S1) ![0] S1.size inb).toLoadRect hl) k) Q) := by
  iintro Hw Hk
  iapply (wp_load 𝒱₀ (c : Thread nD τ) none Set.univ (m := sxM) (Finset.subset_univ _)) $$ Hw; iintro Hw
  rw [show (sxM.view.readAt (Elt F) (Rect.unit (s := S1) ![0] S1.size inb).toLoadRect (sxstg m c)) = sxstg m c from
    Memref.readAt_unit_zero (Elt F) cc0_stg2_0 zero1 _ _]
  iapply Hk
  iexact Hw

/-- Reading the second scale. -/
theorem step_sw {inb} {hl} {k : (S1.Idx → Elt F .f32) → Prog (TpuEff nD τ sig (Elt F) Λ₀ .tc) α} {Q : α → sProp 𝕄} :
    (((c : Thread nD τ).loc cc0_stg3_0) ↦{fullShare} swstg m c)
      ⊢ iprop(((((c : Thread nD τ).loc cc0_stg3_0) ↦{fullShare} swstg m c) -∗ WP c (k (swstg m c)) Q)
        -∗ WP c (.op (.load swM (Rect.unit (s := S1) ![0] S1.size inb).toLoadRect hl) k) Q) := by
  iintro Hw Hk
  iapply (wp_load 𝒱₀ (c : Thread nD τ) none Set.univ (m := swM) (Finset.subset_univ _)) $$ Hw; iintro Hw
  rw [show (swM.view.readAt (Elt F) (Rect.unit (s := S1) ![0] S1.size inb).toLoadRect (swstg m c)) = swstg m c from
    Memref.readAt_unit_zero (Elt F) cc0_stg3_0 zero1 _ _]
  iapply Hk
  iexact Hw

/-- The third piece: the barrier, the scales, the first send. -/
theorem part3 (v63 v70 v77 c1 : BitVec 32) :
    iprop(records m K ∗ levAts L lv ∗ (∃ W, owes (c : Thread nD τ) (O₀ c) W) ∗ places (F := F) c ∗ dues (F := F) c ∗ payToks (F := F) c
        ∗ (bigSep Finset.univ fun k : Msg => slotAny (F := F) k c) ∗ fwd m none c ∗ Sca m c)
      ⊢ WP c (atArgs (k0_part3_skel (F := F)) c v63 v70 v77 (SemArray.scalar barS) c1)
        (fun r => iprop(⌜r = sc m c⌝ ∗ St m K c 1 0 0 ∗ atPos ER (barCell c) 1 (∅ : Finset (Fin 3)) 0 ∗ Sca m c)) := by
  unfold k0_part3_skel
  simp only [semSignalWord, semWaitWord, smemLoad, smemLoadElt, Prog.lift, Prog.bind_op, Prog.bind_ret, Prog.pure_eq_ret, Prog.bind_assoc]
  unfold places dues payToks Sca
  rw [give_slots, three fun d : Fin 3 => dutyTok ER (barCell (nb d c)) 0 d, three fun d : Fin 3 => barPay (F := F) d (nb d c)]
  iintro ⟨#HR, #HL, ⟨%W, HO⟩, ⟨Hb, Hs, Hr⟩, ⟨Hc, Hcr⟩, ⟨⟨Ht0, Ht1, Ht2⟩, Ht⟩, ⟨Hp0, Hp1, Hp2⟩, Hx, Hsx, Hsw⟩
  iapply (step_signal m K c 0 (dev1 c) (O' := Obar c 2) rfl W) $$ [HO Ht0 Hp0]
  · isplitr; · iexact HR
    isplitl [HO]; · iexact HO
    isplitl [Ht0] <;> iassumption
  iintro HO
  iapply (step_signal m K c 1 (dev2 c) (O' := Obar c 1) rfl W) $$ [HO Ht1 Hp1]
  · isplitr; · iexact HR
    isplitl [HO]; · iexact HO
    isplitl [Ht1] <;> iassumption
  iintro HO
  iapply (step_signal m K c 2 (dev3 c) (O' := Obar c 0) rfl W) $$ [HO Ht2 Hp2]
  · isplitr; · iexact HR
    isplitl [HO]; · iexact HO
    isplitl [Ht2] <;> iassumption
  iintro HO
  iapply (step_barrier m K c W) $$ [Hc HO Hb]
  · isplitr; · iexact HR
    isplitr; · iexact HL
    isplitl [Hc]; · iexact Hc
    isplitl [HO]; · iexact HO
    iexact Hb
  iintro ⟨HO, Hb, Hp⟩
  ihave HS := (St_intro m K c) $$ [HO Ht Hp Hs Hr Hcr Hx]
  · isplitr; · iexact HR
    isplitr; · iexact HL
    isplitl [HO]; · iexact HO
    isplitl [Ht]; · iexact Ht
    isplitl [Hp]; · iexact Hp
    isplitl [Hs]; · iexact Hs
    isplitl [Hr]; · iexact Hr
    isplitl [Hcr] <;> iassumption
  iapply (step_sx m c) $$ Hsx; iintro Hsx
  iapply (step_sw m c) $$ Hsw; iintro Hsw
  iapply (step_send m K c (0, 0) (ns := 0) (nr := 0) (nw := 0) rfl rfl (Nat.zero_le _) (dev4 c) rfl rfl rfl rfl) $$ HS; iintro HS
  iapply (step_ret c)
  isplitr; · (ipureintro; rfl)
  isplitl [HS]; · iexact HS
  isplitl [Hb]; · iexact Hb
  isplitl [Hsx] <;> iassumption

end Cert.Cube
-- ==== Proof.Body.lean ====
/-
# The kernel's body, piece after piece
-/
module

public import proofs.«01_k».proof.Proof.Begin

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type}

/-- The two buffers of slots, whatever is in them. -/
def bufs (c : Dev nD) : sProp 𝕄 :=
  iprop((∃ f, ((c : Thread nD τ).loc cc0_scratch0) ↦{fullShare} f) ∗ ∃ f, ((c : Thread nD τ).loc cc0_scratch1) ↦{fullShare} f)

/-- What a device ends the body with, beside the buffers: its semaphores at zero. -/
def finish (c : Dev nD) : sProp 𝕄 :=
  iprop(semVal (barCell c) 0 ∗ (bigSep Finset.univ fun j : Msg => semVal (sCell c j) 0) ∗ bigSep Finset.univ fun j : Msg => semVal (rCell c j) 0)

/-- At the end: the semaphores at zero, the slots whole, nothing owed, the own rows whole, the result complete. -/
theorem close_all :
    iprop(records m K ∗ At m K c 14 14 14 15 ∗ atPos ER (barCell c) 1 (∅ : Finset (Fin 3)) 0)
      ⊢ (|={Set.univ}=> iprop((finish (F := F) c ∗ bufs (F := F) c) ∗ (∃ W, owes (c : Thread nD τ) 0 W)
        ∗ (((c : Thread nD τ).loc cc0_stg0_0) ↦{fullShare} xstg m c) ∗ (((c : Thread nD τ).loc cc0_stg1_0) ↦{fullShare} wstg m c)
        ∗ (((c : Thread nD τ).loc cc0_stg4_0) ↦{fullShare} G m c)) : sProp 𝕄) := by
  unfold At Mem finish bufs
  iintro ⟨#HR, ⟨HS, Hx, Hw, ⟨%f, %hf, Ho⟩⟩, Hb⟩
  imod (close_cell m K c none) $$ [Hb] with Hb
  · isplitr; · iexact HR
    iexact Hb
  imod (St_end m K c) $$ HS with ⟨HO, Hs, Hr, Hfw, Hsl⟩
  imodintro
  ihave Hbuf := (bufs_of_slots m c) $$ Hsl
  ihave Hx := (Entails.of_eq (x_open m c).symm) $$ [Hx Hfw]
  · isplitl [Hx] <;> iassumption
  isplitl [Hb Hs Hr Hbuf]
  · isplitl [Hb Hs Hr]
    · isplitl [Hb]; · iexact Hb
      isplitl [Hs] <;> iassumption
    iexact Hbuf
  isplitl [HO]; · iexact HO
  isplitl [Hx]; · iexact Hx
  isplitl [Hw]; · iexact Hw
  rw [done_all m c hf]
  iexact Ho

/-- The whole body, from what a device starts with: the result is complete, every message has been sent, has arrived and has been waited for. -/
theorem run_pieces :
    iprop((records m K ∗ levAts L lv ∗ (∃ W, owes (c : Thread nD τ) (O₀ c) W) ∗ places (F := F) c ∗ dues (F := F) c ∗ payToks (F := F) c
        ∗ (bigSep Finset.univ fun k : Msg => slotAny (F := F) k c) ∗ fwd m none c ∗ Sca m c) ∗ Mem m c 0)
      ⊢ WP c (atArgs (cc0_body_skel (F := F)))
        (fun _ => iprop(((finish (F := F) c ∗ bufs (F := F) c) ∗ (∃ W, owes (c : Thread nD τ) 0 W)
        ∗ (((c : Thread nD τ).loc cc0_stg0_0) ↦{fullShare} xstg m c) ∗ (((c : Thread nD τ).loc cc0_stg1_0) ↦{fullShare} wstg m c)
        ∗ (((c : Thread nD τ).loc cc0_stg4_0) ↦{fullShare} G m c)) ∗ Sca m c)) := by
  unfold cc0_body_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  iintro ⟨⟨#HR, HB⟩, HM⟩
  iapply (step_part c (part1 c)) $$ []
  · iempintro
  iintro %r %h
  obtain ⟨d0, v2, v19, v20, v39⟩ := r
  obtain rfl : d0 = c := h
  dsimp only
  iapply (step_part d0 (part2 d0 v19 v20 v39)) $$ []
  · iempintro
  iintro %r %h
  obtain ⟨v56, v63, v70, v77, v78, c1⟩ := r
  obtain rfl : v78 = SemArray.scalar barS := h
  dsimp only
  iapply (step_part d0 (part3 m K d0 v63 v70 v77 c1)) $$ [HB]
  · isplitr; · iexact HR
    iexact HB
  iintro %v87 ⟨%h, HS, Hb, Hsc⟩
  subst h
  ihave HA := (show iprop(St m K d0 1 0 0 ∗ Mem m d0 0) ⊢ At m K d0 1 0 0 0 from BI.Entails.refl _) $$ [HS HM]
  · isplitl [HS] <;> iassumption
  iapply (step_part d0 (part4 m K d0 _ _)) $$ HA
  iintro %_ HA
  iapply (step_part d0 (part5 m K d0 _ _ _ _)) $$ HA
  iintro %v160 HA
  iapply (step_part d0 (part6 m K d0 _ _ _)) $$ HA
  iintro %r HA
  obtain ⟨v187, c0⟩ := r
  dsimp only
  iapply (step_part d0 (part7 m K d0 _ _ _ _ _)) $$ HA
  iintro %_ HA
  iapply (step_part d0 (part8 m K d0 _ _ _)) $$ HA
  iintro %r ⟨%h, HA⟩
  obtain ⟨v244, v247, v249⟩ := r
  dsimp only at h
  subst h
  dsimp only
  iapply (step_part d0 (part9 m K d0 _ _ _ _ _ _)) $$ HA
  iintro %_ HA
  iapply (step_part d0 (part10 m K d0 _ _)) $$ HA
  iintro %_ HA
  iapply (step_part d0 (part11 m K d0 _ _ _)) $$ HA
  iintro %r ⟨%h, HA⟩
  obtain ⟨v332, v341, v342⟩ := r
  dsimp only at h
  obtain ⟨rfl, rfl⟩ := h
  dsimp only
  iapply (step_part d0 (part12 m K d0 _ _ _ _ _)) $$ HA
  iintro %_ HA
  iapply (step_part d0 (part13 m K d0 _ _)) $$ HA
  iintro %_ HA
  iapply (step_part d0 (part14 m K d0 _ _ _)) $$ HA
  iintro %r ⟨%h, HA⟩
  obtain ⟨v424, v434⟩ := r
  dsimp only at h
  subst h
  dsimp only
  iapply (step_part d0 (part15 m K d0 _ _ _ _ _)) $$ HA
  iintro %_ HA
  iapply (step_part d0 (part16 m K d0 _ _)) $$ HA
  iintro %_ HA
  iapply (step_part d0 (part17 m K d0 _ _ _)) $$ HA
  iintro %r ⟨%h, HA⟩
  obtain ⟨v518, v527, c256⟩ := r
  dsimp only at h
  subst h
  dsimp only
  iapply (step_part d0 (part18 m K d0 _ _ _ _ _ _)) $$ HA
  iintro %_ HA
  iapply (step_part d0 (part19 m K d0 _ _ _ _)) $$ HA
  iintro %r ⟨%h, HA⟩
  obtain ⟨v585, v591⟩ := r
  dsimp only at h
  subst h
  dsimp only
  iapply (step_part d0 (part20 m K d0 _ _ _ _)) $$ HA
  iintro %_ HA
  iapply (step_part d0 (part21 m K d0)) $$ HA
  iintro %_ HA
  iapply (step_part d0 (part22 m K d0)) $$ HA
  iintro %_ HA
  iapply (step_part d0 (part23 m K d0)) $$ HA
  iintro %_ HA
  simp only [Prog.lift, Prog.bind_op, Prog.bind_ret, Prog.pure_eq_ret, Prog.bind_assoc]
  unfold At
  icases HA with ⟨HS, HM⟩
  iapply (step_swait m K d0 (1, 6) (ns := 14) (nr := 14) (nw := 13) rfl (by decide) rfl (by decide) rfl (credit_slot (1, 2))) $$ HS; iintro HS
  imod (close_all m K d0) $$ [HS HM Hb] with HE
  · unfold At
    isplitr; · iexact HR
    isplitl [HS HM]; · isplitl [HS] <;> iassumption
    iexact Hb
  iapply (step_ret d0)
  isplitl [HE] <;> iassumption

end Cert.Cube
-- ==== Proof.Run.lean ====
/-
# The launch

Ownership at launch, what each device is dealt of it, and the run of the whole program: every execution ends with the result
in place, the arguments as they were and all semaphores at zero.
-/
module

public import proofs.«01_k».proof.Proof.Body
public import Idealize.ShloMosaic.Lib.Pipeline.CollectiveSegs

@[expose] public section

set_option maxRecDepth 16384

noncomputable section

namespace Cert.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The body between what the pipeline gives and takes -/

/-- The state at the launch: any memory, every semaphore at zero. -/
def s₀ : MemSt nD τ sig (Elt F) := ⟨m, fun _ => 0, ρ⟩

/-- What a device starts the body with, beside the buffers. -/
def start (c : Dev nD) : sProp 𝕄 :=
  iprop((∃ K, records m K) ∗ levAts L lv ∗ places (F := F) c ∗ dues (F := F) c ∗ payToks (F := F) c)

/-- What the pipeline is told of a device: its arrays, what the staging buffers hold after the body, what else the body needs and leaves, what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => G m c
  Φ t := match t with
    | ⟨0, _⟩ => iprop(start m c ∗ bufs (F := F) c)
    | ⟨_ + 1, _⟩ => iprop(finish (F := F) c ∗ bufs (F := F) c)
  q _ := fullShare
  owed t := match t with
    | ⟨0, _⟩ => O₀ c
    | ⟨_ + 1, _⟩ => 0

omit [FloatOps F] in
/-- Owning a whole buffer with given contents, written out. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline gives to the body. -/
def bodyPre (c : Dev nD) : sProp 𝕄 :=
  iprop((start m c ∗ bufs (F := F) c) ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- What the pipeline takes from the body. -/
def bodyPost (c : Dev nD) : sProp 𝕄 :=
  iprop((finish (F := F) c ∗ bufs (F := F) c) ∗ (dats m ρ 0 c).owesAt () t0_0.succ
    ∗ stg c cc0_stg0_0 (xstg m c) ∗ stg c cc0_stg1_0 (wstg m c) ∗ stg c cc0_stg2_0 (sxstg m c) ∗ stg c cc0_stg3_0 (swstg m c)
    ∗ stg c cc0_stg4_0 (G m c))

/-- The rows of `x` are staged when the body starts. -/
theorem before0 (c : Dev nD) (d) : (dats m ρ 0 c).before (0 : Fin 5) t0_0 d = xstg m c := by
  unfold Dat.before; rw [if_pos (fetch0_0 t0_0)]; rfl
/-- The columns of `w_mat` are staged when the body starts. -/
theorem before1 (c : Dev nD) (d) : (dats m ρ 0 c).before (1 : Fin 5) t0_0 d = wstg m c := by
  unfold Dat.before; rw [if_pos (fetch0_1 t0_0)]; rfl
/-- The scale of `x` is staged when the body starts. -/
theorem before2 (c : Dev nD) (d) : (dats m ρ 0 c).before (2 : Fin 5) t0_0 d = sxstg m c := by
  unfold Dat.before; rw [if_pos (fetch0_2 t0_0)]; rfl
/-- The scale of `w_mat` is staged when the body starts. -/
theorem before3 (c : Dev nD) (d) : (dats m ρ 0 c).before (3 : Fin 5) t0_0 d = swstg m c := by
  unfold Dat.before; rw [if_pos (fetch0_3 t0_0)]; rfl

/-- The body, from what the pipeline gives to what it takes. -/
theorem body_ok (c : Dev nD) : bodyPre m ρ c ⊢ WP c (atArgs (cc0_body_skel (F := F))) (fun _ => bodyPost m ρ c) := by
  unfold bodyPre start bodyPost
  simp only [before0, before1, before2, before3]
  unfold Dat.owesAt Pipeline.owesWithin
  rw [show (dats m ρ 0 c).owed t0_0.castSucc = O₀ c from rfl, show (dats m ρ 0 c).owed t0_0.succ = 0 from rfl]
  iintro ⟨⟨⟨⟨%K, #HR⟩, HL, Hpl, Hdu, Htk⟩, Hbuf⟩, ⟨%W, -, HO⟩, ⟨%d0, %f0, %h0, H0⟩, ⟨%d1, %f1, %h1, H1⟩, ⟨%d2, %f2, %h2, H2⟩, ⟨%d3, %f3, %h3, H3⟩, ⟨%d4, %f4, -, H4⟩⟩
  subst h0 h1 h2 h3
  ihave Hsl := (slots_of_bufs (F := F) c) $$ [Hbuf]
  · unfold bufs; iexact Hbuf
  ihave Hx := (Entails.of_eq (x_open m c)) $$ H0
  icases Hx with ⟨Hx, Hfw⟩
  iapply ((run_pieces m K c).trans (wp_wand Idealize.ShloMosaic.frame (wpE (defs₀ (F := F)) 𝒱₀ (c : Thread nD τ) none) Set.univ)) $$ [HL Hpl Hdu Htk HO Hsl Hfw Hx H1 H2 H3 H4]
  · isplitl [HL Hpl Hdu Htk HO Hsl Hfw H2 H3]
    · isplitr; · iexact HR
      isplitl [HL]; · iexact HL
      isplitl [HO]; · iexists W; iexact HO
      isplitl [Hpl]; · iexact Hpl
      isplitl [Hdu]; · iexact Hdu
      isplitl [Htk]; · iexact Htk
      isplitl [Hsl]; · iexact Hsl
      isplitl [Hfw]; · iexact Hfw
      unfold Sca
      isplitl [H2] <;> iassumption
    unfold Mem
    isplitl [Hx]; · iexact Hx
    isplitl [H1]; · iexact H1
    iexists f4; isplitr; · (ipureintro; exact done_zero m c f4)
    iexact H4
  iintro %_ ⟨⟨HF, ⟨%W', HO⟩, Hx, H1, H4⟩, Hsc⟩
  unfold Sca
  icases Hsc with ⟨H2, H3⟩
  isplitl [HF]; · iexact HF
  isplitl [HO]
  · iexists W'; isplitr; · (ipureintro; exact fun _ _ => Or.inl trivial)
    iexact HO
  isplitl [Hx]; · iexists _; isplitr; · (ipureintro; rfl)
                  iexact Hx
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists _; isplitr; · (ipureintro; rfl)
  iexact H4

/-- The body does what the pipeline asks of it. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ WP c (atArgs (cc0_body (F := F))) (fun _ => bodyPost m ρ c)
  rw [cc0_body_eq_skeleton]
  exact body_ok m ρ c

/-! ## The launch's cells and tokens -/

/-- The kernel's own semaphores: one for the end of each send and one for each arrival. -/
abbrev osem (x : Bool × Msg) : SemLoc sig := ksem (some x)

/-- The kernel's own semaphores are distinct from the pipeline's. -/
theorem ownSemFacts : Pipeline.OwnSemFacts cfg0.spec osem := by decide

/-- Every window holds its whole array. -/
theorem share_eq (c : Dev nD) (w : Fin cfg0.W) : (dats m ρ 0 c).share w = fullShare := by unfold Dat.share; split <;> rfl

/-- Different devices and kinds have different cells. -/
theorem kcell_inj : Function.Injective (kcell : Dev nD × CK → GSem nD τ sig) := by
  rintro ⟨c, k⟩ ⟨c', k'⟩ h
  obtain rfl : c = c' := congrArg (fun g : GSem nD τ sig => g.1.1) h
  obtain rfl : k = k' := ksem_inj (congrArg Prod.snd h)
  rfl

/-- All cells of all devices. -/
def allCells : Finset (GSem nD τ sig) := Finset.univ.map ⟨kcell, kcell_inj⟩

/-- A cell's token of each name. -/
abbrev tokOf (x : Dev nD × CK × Fin 3) : GSem nD τ sig × ℕ × Fin 3 := (kcell (x.1, x.2.1), 0, x.2.2)
/-- Different duties have different tokens. -/
theorem tokOf_inj : Function.Injective tokOf := by
  rintro ⟨c, k, d⟩ ⟨c', k', d'⟩ h
  obtain ⟨rfl, rfl⟩ := Prod.mk.inj (kcell_inj (congrArg Prod.fst h) : (c, k) = (c', k'))
  obtain rfl : d = d' := congrArg (fun x : GSem nD τ sig × ℕ × Fin 3 => x.2.2) h
  rfl

/-- All tokens of all duties. -/
def allToks : Finset (GSem nD τ sig × ℕ × Fin 3) := Finset.univ.map ⟨tokOf, tokOf_inj⟩

/-- The ghost state at the launch. -/
def u₀ : UU := (initOf (Pipeline.cells cfgs cellOf_inj) (Pipeline.launchToks cfgs cellOf_inj), initOf allCells allToks)

/-- All tokens of a device's own cells. -/
def toks (c : Dev nD) : sProp 𝕄 := bigSep Finset.univ fun k : CK => bigSep Finset.univ fun d : Fin 3 => dutyTok ER (kcell (c, k)) 0 d

/-- What a device is dealt at first. -/
def dealt (c : Dev nD) : sProp 𝕄 :=
  iprop((bigSep Finset.univ fun k : CK => roundState ER (Rd m) (kcell (c, k)) 0)
    ∗ (bigSep Finset.univ fun k : CK => iprop(atPos ER (kcell (c, k)) 0 (∅ : Finset (Fin 3)) 0 ∗ reached ER (kcell (c, k)) 0)) ∗ toks (F := F) c)

/-- What it has once the cells are set up and the tokens have been passed on. -/
def ready (c : Dev nD) : sProp 𝕄 := iprop(∃ K, records m K ∗ places (F := F) c ∗ payToks (F := F) c)

omit [FloatOps F] in
/-- The last of three conjuncts moved to the front. -/
theorem last_first (A B C : sProp 𝕄) : iprop((A ∗ B) ∗ C) = iprop(C ∗ A ∗ B) :=
  eq_of_both ⟨by iintro ⟨⟨A, B⟩, C⟩; iframe, by iintro ⟨A, B, C⟩; iframe⟩

omit [FloatOps F] in
/-- A family over a device's cells: the barrier's, the sends', the arrivals'. -/
theorem by_kind (Φ : CK → sProp 𝕄) : bigSep Finset.univ Φ = iprop(Φ none ∗ (bigSep Finset.univ fun j : Msg => Φ (some (false, j)))
    ∗ bigSep Finset.univ fun j : Msg => Φ (some (true, j))) := by
  rw [bigSep_univ_equiv (Equiv.optionEquivSumPUnit.{0} (Bool × Msg)).symm Φ, bigSep_univ_sum, bigSep_univ_prod,
    bigSep_univ_of_subsingleton PUnit.unit, bigSep_univ_equiv finTwoEquiv, bigSep_fin_two]
  exact last_first _ _ _

omit [FloatOps F] in
/-- The ghost state of the cells is dealt out to the devices. -/
theorem fund : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 (∅ : Finset (Fin 3)) 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

omit [FloatOps F] in
/-- The barrier's semaphore belongs to the whole program. -/
theorem unscoped_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The semaphores that the kernel allocates are those of the sends and of the arrivals. -/
theorem own_eq (c : Dev nD) : (Pipeline.ownSems0 (Ix := Unit) (Name := ℕ) (U := UU) (Lvl := ℕ) (Val := Elt F) (τ := τ) osem c : sProp 𝕄)
    = iprop((bigSep Finset.univ fun j : Msg => semVal (sCell c j) 0) ∗ bigSep Finset.univ fun j : Msg => semVal (rCell c j) 0) := by
  unfold Pipeline.ownSems0
  rw [bigSep_univ_prod, bigSep_univ_equiv finTwoEquiv, bigSep_fin_two]
  rfl

omit [FloatOps F] in
/-- A device's cells are set up. -/
theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (Rd m) κ (kcell (c, k))))
          ∗ (bigSep Finset.univ fun k => iprop(atPos ER (kcell (c, k)) 0 (∅ : Finset (Fin 3)) 0 ∗ reached ER (kcell (c, k)) 0)) ∗ toks (F := F) c) := by
  unfold dealt
  rw [own_eq, unscoped_eq]
  iintro ⟨⟨Hs, Hr⟩, Hb, Hst, Hat, Htok⟩
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hs Hr Hb Hst] with Hinv
  · isplitl [Hs Hr Hb]
    · rw [by_kind]
      isplitl [Hb]; · iexact Hb
      isplitl [Hs]; · iexact Hs
      iexact Hr
    iexact Hst
  imodintro
  isplitl [Hinv]; · iexact Hinv
  isplitl [Hat]; · iexact Hat
  iexact Htok

/-- Going along one direction, as a bijection of the devices. -/
def nbE (d : Fin 3) : Dev nD ≃ Dev nD := ⟨nb d, nb d, nb_nb d, nb_nb d⟩

omit [FloatOps F] in
/-- A family over devices and labels, each member handed to the neighbour along the label's direction. -/
theorem hand {I : Type} [Fintype I] (dir : I → Fin 3) (Φ : Dev nD → I → sProp 𝕄) :
    (bigSep Finset.univ fun c => bigSep Finset.univ fun i => Φ c i) = bigSep Finset.univ fun c => bigSep Finset.univ fun i => Φ (nb (dir i) c) i := by
  rw [bigSep_univ_comm, bigSep_univ_comm (fun c i => Φ (nb (dir i) c) i)]
  exact bigSep_congr fun i _ => bigSep_univ_equiv (nbE (dir i)) (fun c => Φ c i)

omit [FloatOps F] in
/-- The tokens passed on: every device gets those it pays with. -/
theorem toks_around : (bigSep Finset.univ fun c : Dev nD => toks (F := F) c) ⊢ (bigSep Finset.univ fun c : Dev nD => payToks (F := F) c : sProp 𝕄) := by
  have h1 (c : Dev nD) : toks (F := F) c ⊢ iprop((bigSep Finset.univ fun d : Fin 3 => dutyTok ER (barCell c) 0 d)
      ∗ (bigSep Finset.univ fun j : Msg => dutyTok ER (sCell c j) 0 (0 : Fin 3)) ∗ bigSep Finset.univ fun j : Msg => dutyTok ER (rCell c j) 0 (0 : Fin 3)) := by
    unfold toks
    rw [by_kind]
    exact BI.sep_mono (BI.Entails.refl _) (BI.sep_mono (bigSep_mono fun j _ => bigSep_elim (Finset.mem_univ (0 : Fin 3))) (bigSep_mono fun j _ => bigSep_elim (Finset.mem_univ (0 : Fin 3))))
  have h2 : (bigSep Finset.univ fun c : Dev nD => payToks (F := F) c) = bigSep Finset.univ fun c : Dev nD =>
      iprop((bigSep Finset.univ fun d : Fin 3 => dutyTok ER (barCell c) 0 d)
        ∗ (bigSep Finset.univ fun j : Msg => dutyTok ER (sCell c j) 0 (0 : Fin 3)) ∗ bigSep Finset.univ fun j : Msg => dutyTok ER (rCell c j) 0 (0 : Fin 3)) := by
    unfold payToks
    simp only [bigSep_sep']
    rw [hand (fun d => d) fun c (d : Fin 3) => dutyTok ER (barCell c) 0 d, hand dim fun c (j : Msg) => dutyTok ER (rCell c j) 0 (0 : Fin 3)]
  rw [h2]
  exact bigSep_mono fun c _ => h1 c

omit [FloatOps F] in
/-- All devices together: the cells become shared, the tokens are passed on. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 (∅ : Finset (Fin 3)) 0 ∗ reached ER (kcell (c, k)) 0)) ∗ toks (F := F) c) : sProp 𝕄)
      ⊢ bigSep Finset.univ (ready m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 (∅ : Finset (Fin 3)) 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  have h (c : Dev nD) : iprop(records m K ∗ (places (F := F) c ∗ payToks (F := F) c)) ⊢ ready m c := by
    unfold ready; iintro ⟨A, B, C⟩; iexists K; iframe
  iapply (each_with (R := records m K) fun c _ => h c)
  isplitr
  · unfold records; isplitl; · iexact HI
    iexact HR
  rw [bigSep_sep']
  isplitl [Hat]
  · iapply (Entails.of_eq (bigSep_congr fun c _ => show _ = places (F := F) c from by_kind fun k => atPos ER (kcell (c, k)) 0 (∅ : Finset (Fin 3)) 0)); iexact Hat
  iexact Htk

omit [FloatOps F] in
/-- All devices' cells are set up together. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => core_alloc m c).trans (bigSep_fupd _ _)).trans (BI.fupd_mono (regroup m))

/-! ## What is owed to a device at launch -/

/-- Cells of one kind are equal when their devices are. -/
theorem kcell_eq_iff (c c' : Dev nD) (k : CK) : kcell (c, k) = kcell (c', k) ↔ c = c' :=
  ⟨fun h => congrArg Prod.fst (kcell_inj h), fun h => h ▸ rfl⟩

/-- A device owes a unit to the barrier of each neighbour. -/
theorem owed_bar (c e : Dev nD) : O₀ e (barCell c) () = ∑ d : Fin 3, if c = nb d e then 1 else 0 := by
  have hw : Ow e 0 (barCell c) () = 0 := by
    by_contra h
    obtain ⟨k, -, hk⟩ := Ow_pos (Nat.pos_iff_ne_zero.mpr h)
    have := congrArg Prod.snd (kcell_inj (show kcell (c, none) = kcell (nb (dim k) e, some (true, k)) from hk))
    cases this
  have hb (d : Fin 3) : tallyAt (barCell (nb d e)) () 1 (barCell c) () = if c = nb d e then 1 else 0 := by
    rw [tallyAt_apply]; exact if_congr (by rw [and_iff_left rfl]; exact kcell_eq_iff c (nb d e) none) rfl rfl
  unfold O₀ Obar Obar Obar Obar
  simp only [Pi.add_apply, Finsupp.add_apply, hw, hb]
  rw [Fin.sum_univ_three]
  show ((0 + (if c = nb 2 e then 1 else 0)) + if c = nb 1 e then 1 else 0) + (if c = nb 0 e then 1 else 0) = _
  omega

/-- A device owes a message's bytes to the neighbour it sends it to. -/
theorem owed_r (c e : Dev nD) (j : Msg) : O₀ e (rCell c j) () = if e = nb (dim j) c then N else 0 := by
  have hb (d : Fin 3) : tallyAt (barCell (nb d e)) () 1 (rCell c j) () = 0 := by
    rw [tallyAt_apply, if_neg fun h => ?_]
    cases congrArg Prod.snd (kcell_inj (show kcell (c, some (true, j)) = kcell (nb d e, none) from h.1))
  have hr (k : Msg) : (if sidx k < 0 then 0 else tallyAt (rCell (nb (dim k) e) k) () N) (rCell c j) () = if k = j then (if e = nb (dim j) c then N else 0) else 0 := by
    rw [if_neg (Nat.not_lt_zero _), tallyAt_apply]
    by_cases hk : k = j
    · subst hk
      rw [if_pos rfl]
      refine if_congr ?_ rfl rfl
      rw [and_iff_left rfl]
      refine (kcell_eq_iff c (nb (dim k) e) (some (true, k))).trans ⟨fun h => by rw [h, nb_nb], fun h => by rw [h, nb_nb]⟩
    · rw [if_neg hk, if_neg fun h => hk ?_]
      have := congrArg Prod.snd (kcell_inj (show kcell (c, some (true, j)) = kcell (nb (dim k) e, some (true, k)) from h.1))
      exact (congrArg Prod.snd (Option.some.inj this)).symm
  unfold O₀ Obar Obar Obar Obar Ow
  simp only [Pi.add_apply, Finsupp.add_apply, hb, Nat.add_zero]
  rw [Finset.sum_apply, Finsupp.finset_sum_apply, Finset.sum_congr rfl fun k _ => hr k, Finset.sum_ite_eq' Finset.univ j, if_pos (Finset.mem_univ _)]

/-- At launch three units are owed to a device's barrier. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d]
  revert c; decide
/-- At launch one message is owed to each arrival cell. -/
theorem launch_r (c : Dev nD) (j : Msg) :
    tallyOn (rCell c j) (launchCredit (Pipeline.owing O₀) 0 (rCell c j)) = (tallyAt (rCell c j) () N : CellTallies nD τ sig Unit) := by
  unfold tallyAt; refine congrArg _ (Finsupp.ext fun u => ?_); cases u
  rw [Pipeline.launchCredit_owing, Finsupp.single_eq_same, Finset.sum_congr rfl fun d _ => owed_r c d j,
    Finset.sum_ite_eq' Finset.univ (nb (dim j) c) fun _ => N, if_pos (Finset.mem_univ _)]

omit [FloatOps F] in
/-- What is owed to a device at launch: three units at its barrier and its arrivals. -/
theorem creds (c : Dev nD) : (Pipeline.launchCred O₀ c : sProp 𝕄) ⊢ dues (F := F) c := by
  unfold Pipeline.launchCred dues
  refine (bigSep_subset (Finset.subset_univ (Finset.univ.map ⟨ksem, ksem_inj⟩))).trans ?_
  rw [bigSep_map, by_kind]
  have h (A B : sProp 𝕄) : iprop(A ∗ B) ⊢ B := by iintro ⟨-, H⟩; iexact H
  exact BI.sep_mono (Entails.of_eq (congrArg cred (launch_bar c))) (BI.Entails.trans (h _ _) (Entails.of_eq (bigSep_congr fun j _ => congrArg cred (launch_r c j))))

/-! ## The run -/

omit [FloatOps F] in
/-- What a device has at launch is what its body starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  unfold ready start
  iintro ⟨-, Hlev, Hcr, -, ⟨%K, HR, Hpl, Htk⟩⟩
  ihave Hc := (creds (F := F) c) $$ Hcr
  imodintro
  isplitl
  · isplitl [HR]; · iexists K; iexact HR
    isplitl [Hlev]; · iexact Hlev
    isplitl [Hpl]; · iexact Hpl
    isplitl [Hc] <;> iassumption
  · iempintro

/-- With the landing buffers this is what the body needs beside the staging buffers. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ bufs (F := F) c) from rfl, scopedRest0_eq]
  unfold bufs
  iintro ⟨Hs, -, Hb⟩
  isplitl [Hs] <;> iassumption

/-- What the body leaves gives back every semaphore at zero and the landing buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(finish (F := F) c ∗ bufs (F := F) c) from rfl, scopedRest0_eq, own_eq, unscoped_eq]
  unfold finish bufs
  iintro ⟨⟨Hb, Hs, Hr⟩, Hbuf⟩
  isplitl [Hb]; · iexact Hb
  isplitl [Hs Hr]
  · isplitl [Hs] <;> iassumption
  iexact Hbuf

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Every window's array at the end of the run. -/
def finalA (c : Dev nD) (w : Fin cfg0.W) : Buf (Elt F) ((cfg0.win w).arr.view.loc (c : Thread nD τ)) := (dats m ρ 0 c).arrAt w cfg0.N

/-- What is claimed of the state at the end: every array is as computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory and with all semaphores at zero: every fair execution on the eight devices ends, with
    each array as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays at the end hold what they held. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

end Cert.Cube
-- ==== Proof.Frames.lean ====
/-
# The frames, and what the result holds

Both programs of the kernel run to an end, keep their arguments and leave every semaphore at zero; the result array ends as
`G` says. The reference program does so by its own run.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Pipeline.ValueKit.Geometry
public import Idealize.ShloMosaic.Lib.StableHlo.Run

@[expose] public section

set_option maxRecDepth 16384

noncomputable section

namespace Cert.Cube

open Cert.KernelIdeal Cert.KernelIdeal.Gen
open Idealize.ShloMosaic Idealize.ShloMosaic.TcCoe Idealize.SL.Sem

section Kernel

variable {F : FTy → Type} [FloatOps F]
variable (m : (ℓ : Loc nD τ sig) → Buf (Elt F) ℓ) (ρ : Dev nD → PrngReg)

/-- The result array at the end. -/
theorem finalA_out (c : Dev nD) : finalA m ρ c (4 : Fin 5) = G m c :=
  (dats (F := F) m ρ 0 c).arrAt_eq_of_after_last (4 : Fin 5) t0_0 (by decide +kernel) (G m c) fun j => rfl

/-- The arguments of a device are as they were. -/
abbrev Kept (c : Dev nD) (r : PUnit × MemSt nD τ sig (Elt F)) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

/-- Every execution ends with the result in place, the arguments kept and the semaphores at zero. -/
theorem run_result : θ_run (defs (F := F)) (onTc (τ := τ) (main (F := F))) ⟨m, fun _ => 0, ρ⟩ (fun r =>
    (∀ c : Dev nD, r.2.mem ((c.tc : Thread nD τ).loc main_v1) = G m c ∧ Kept m c r) ∧ r.2.sem = fun _ => 0) :=
  (θ_run (defs (F := F)) _ _).mono (fun r h => ⟨fun c =>
    ⟨(h.1 c 4).trans (finalA_out m ρ c), (h.1 c 0).trans (finalA_in m ρ c 0 rfl), (h.1 c 1).trans (finalA_in m ρ c 1 rfl),
      (h.1 c 2).trans (finalA_in m ρ c 2 rfl), (h.1 c 3).trans (finalA_in m ρ c 3 rfl)⟩, h.2⟩) (run_main m ρ)

/-- The same, of the arguments and the semaphores only. -/
theorem run_kept : θ_run (defs (F := F)) (onTc (τ := τ) (main (F := F))) ⟨m, fun _ => 0, ρ⟩ (fun r =>
    (∀ c : Dev nD, Kept m c r) ∧ r.2.sem = fun _ => 0) :=
  (θ_run (defs (F := F)) _ _).mono (fun _ h => ⟨fun c => (h.1 c).2, h.2⟩) (run_result m ρ)

end Kernel

/-! ## The printed kernel is the idealized one, read at the machine's floats -/

section Same

attribute [local instance] Cert.Kernel.Gen.facts

open Cert.KernelIdeal.Facts in
/-- The kernel's body table: one label, one and the same body. -/
theorem defs₀_same : (Cert.Kernel.defs₀ (F := Bits)) = (defs₀ (F := Bits)) := by
  have hbody : (Cert.Kernel.cc0_body (F := Bits)) = (cc0_body (F := Bits)) := rfl
  refine congrArg Defs.onTc (funext fun l => funext fun x => ?_)
  match l, x with
  | ⟨0, _⟩, (_, s) =>
    exact congrArg (fun k => k (win0_0.stage (s 0)) (hstage0_0 0) (win0_1.stage (s 1)) (hstage0_1 0) (win0_2.stage (s 2)) (hstage0_2 0)
      (win0_3.stage (s 3)) (hstage0_3 0) (win0_4.stage (s 4)) (hstage0_4 0) (Memref.whole cc0_scratch0) (Memref.isWhole_whole _)
      (Memref.whole cc0_scratch1) (Memref.isWhole_whole _) cc0_scratch2 cc0_scratch3 cc0_scratch4 cc0_scratch5) hbody
  | ⟨_ + 1, h⟩, _ => exact absurd h (Nat.not_lt.2 (Nat.le_add_left _ _))

/-- The tables with the pipeline's own labels. -/
theorem defs_same : (Cert.Kernel.defs (F := Bits)) = (defs (F := Bits)) := congrArg (Pipeline.defs pcfgs) defs₀_same

/-- The kernel's frame. -/
theorem frame_kernel : Cert.quiescent_Kernel := fun m ρ _ => by
  rw [defs_same]
  exact run_kept (F := Bits) m ρ

end Same

/-- The idealized kernel's frame, on any memory and so on one the precondition holds of. -/
theorem frame_ideal : Cert.quiescent_KernelIdeal := fun m ρ _ => run_kept (F := Ideal) m ρ
/-- The same under the precondition of the algebraic claim. -/
theorem frame_ideal_pre [Cert.Pre_short_vectors_KernelIdeal.Facts] : Cert.quiescent_KernelIdeal_pre_short_vectors_KernelIdeal :=
  fun m ρ _ => run_kept (F := Ideal) m ρ

end Cert.Cube

namespace Cert.Whole

open Cert.ReferenceIdeal Idealize.ShloMosaic Idealize.ShloMosaic.TcCoe Idealize.SL.Sem

/-- The reference's run, its arguments and its counters: it has no semaphore. -/
theorem run_kept (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run (F := Ideal) m ρ)

/-- The reference's frame. -/
theorem frame_reference : Cert.quiescent_ReferenceIdeal := fun m ρ _ => run_kept m ρ
/-- The same under the precondition of the algebraic claim. -/
theorem frame_reference_pre [Cert.Pre_short_vectors_ReferenceIdeal.Facts] :
    Cert.quiescent_ReferenceIdeal_pre_short_vectors_ReferenceIdeal := fun m ρ _ => run_kept m ρ

end Cert.Whole
-- ==== Proof.Sums.lean ====
/-
# Products of rows and columns

A product of two arrays read at one place, over the integers and over the extended reals, and the bound under which the int8
product of the matrix unit is the integers' product.
-/
module

public import Idealize.ShloMosaic.Lib.IntMxu
public import Idealize.ShloMosaic.Lib.MatmulPlain
public import Idealize.ShloMosaic.Lib.Pointwise.Reduce
public import Idealize.ShloMosaic.PureOps.Ideal.Laws

@[expose] public section

noncomputable section

namespace Cert.Sums

open Idealize.ShloMosaic
open Idealize.ShloMosaic.ValueIdx (contrEquiv1 contrEquiv1_symm_val)
open scoped BigOperators

/-- An integer among the extended reals. -/
abbrev up (z : ℤ) : EReal := ((z : ℝ) : EReal)

/-- A sum of integers is the same sum among the extended reals. -/
theorem up_sum {ι : Type*} (s : Finset ι) (f : ι → ℤ) : (∑ k ∈ s, up (f k)) = up (∑ k ∈ s, f k) := by
  classical
  refine Finset.induction_on s (by simp [up]) fun a t ha ih => ?_
  rw [Finset.sum_insert ha, Finset.sum_insert ha, ih]
  unfold up
  rw [← EReal.coe_add, Int.cast_add]

/-- A product likewise. -/
theorem up_mul (a b : ℤ) : up a * up b = up (a * b) := by
  unfold up
  rw [← EReal.coe_mul, Int.cast_mul]

/-- The order of the integers is that of the extended reals. -/
theorem up_le {a b : ℤ} : up a ≤ up b ↔ a ≤ b := by
  show ((a : ℝ) : EReal) ≤ _ ↔ _
  rw [EReal.coe_le_coe_iff, Int.cast_le]

section Plain

variable {M K N : ℕ}

/-- A sum over the contracted positions of a plain product runs over a row of one array and a column of the other. -/
theorem sum_plain {β : Type*} [AddCommMonoid β] (f : (⟨2, ![M, K]⟩ : Shape).Idx → (⟨2, ![K, N]⟩ : Shape).Idx → β) (r : Fin M) (l : Fin N) :
    (∑ k : (DotDims.plain M K N).contr.Idx, f ((DotDims.plain M K N).lhsIdx (ix2 r l) k) ((DotDims.plain M K N).rhsIdx (ix2 r l) k))
      = ∑ k : Fin K, f (ix2 r k) (ix2 k l) := by
  rw [← Equiv.sum_comp (DotDims.plainContr M K N).symm]
  refine Finset.sum_congr rfl fun k _ => ?_
  have hk := contrEquiv1_symm_val _ K (DotDims.plain_contr_rank M K N) (DotDims.plain_contr_size M K N) k
  have el : (DotDims.plain M K N).lhsIdx (ix2 r l) ((DotDims.plainContr M K N).symm k) = ix2 r k := by
    funext a; apply Fin.ext
    match a with
    | 0 => rfl
    | 1 => exact hk
  have er : (DotDims.plain M K N).rhsIdx (ix2 r l) ((DotDims.plainContr M K N).symm k) = ix2 k l := by
    funext a; apply Fin.ext
    match a with
    | 0 => exact hk
    | 1 => rfl
  rw [el, er]

/-- The integers' product of a row and a column. -/
def dot (x : Fin K → BitVec 8) (w : Fin K → BitVec 8) : ℤ := ∑ k, (x k).toInt * (w k).toInt

/-- A row or column is short: its sum of squares is below 2^24. -/
def Short (x : Fin K → BitVec 8) : Prop := ∑ k, (x k).toInt * (x k).toInt ≤ 16777215

/-- Twice the magnitude of a product is at most the sum of the squares. -/
theorem abs_mul_le (a b : ℤ) : 2 * ((a * b).natAbs : ℤ) ≤ a * a + b * b := by
  rw [Int.natCast_natAbs]
  rcases abs_cases (a * b) with ⟨h, -⟩ | ⟨h, -⟩ <;> rw [h]
  · nlinarith [sq_nonneg (a - b)]
  · nlinarith [sq_nonneg (a + b)]

/-- Of a short row and a short column the products' magnitudes stay below 2^24. -/
theorem abs_dot_le {x w : Fin K → BitVec 8} (hx : Short x) (hw : Short w) :
    ∑ k, ((x k).toInt * (w k).toInt).natAbs ≤ 16777215 := by
  have h : 2 * ∑ k, (((x k).toInt * (w k).toInt).natAbs : ℤ) ≤ ∑ k, (x k).toInt * (x k).toInt + ∑ k, (w k).toInt * (w k).toInt := by
    rw [Finset.mul_sum, ← Finset.sum_add_distrib]
    exact Finset.sum_le_sum fun k _ => abs_mul_le _ _
  have hc : ((∑ k, ((x k).toInt * (w k).toInt).natAbs : ℕ) : ℤ) = ∑ k, (((x k).toInt * (w k).toInt).natAbs : ℤ) := by push_cast; rfl
  unfold Short at hx hw
  omega

/-- There the matrix unit's word, read as an integer, is the integers' product. -/
theorem unit_dot (x : IVec ⟨2, ![M, K]⟩ 8) (w : IVec ⟨2, ![K, N]⟩ 8) (acc : IVec ⟨2, ![M, N]⟩ 32) (r : Fin M) (l : Fin N)
    (h0 : acc (ix2 r l) = 0) (hx : Short fun k => x (ix2 r k)) (hw : Short fun k => w (ix2 k l)) :
    (matmulI8 IntMxuNumerics.v7x (DotDims.plain M K N) x w acc (ix2 r l)).toInt = dot (fun k => x (ix2 r k)) (fun k => w (ix2 k l)) := by
  rw [matmulI8_toInt _ _ _ _ _ _ h0]
  · exact sum_plain (fun i j => (x i).toInt * (w j).toInt) r l
  · refine le_trans (le_of_eq ?_) (abs_dot_le hx hw)
    exact sum_plain (fun i j => ((x i).toInt * (w j).toInt).natAbs) r l

/-- The extended reals' product of integer arrays is the integers' product. -/
theorem host_dot (x : IVec ⟨2, ![M, K]⟩ 8) (w : IVec ⟨2, ![K, N]⟩ 8) (h : 8 < 32) (r : Fin M) (l : Fin N) :
    Host.dotGeneral (DotDims.plain M K N) none (sitofp (F := Ideal) .f32 (extsi 32 x h)) (sitofp (F := Ideal) .f32 (extsi 32 w h)) (ix2 r l)
      = up (dot (fun k => x (ix2 r k)) (fun k => w (ix2 k l))) := by
  simp only [Host.dotGeneral]
  rw [Ideal.dotGeneral_apply, sum_plain (fun i j => sitofp (F := Ideal) .f32 (extsi 32 x h) i * sitofp (F := Ideal) .f32 (extsi 32 w h) j) r l]
  unfold dot
  rw [← up_sum]
  refine Finset.sum_congr rfl fun k _ => ?_
  rw [← up_mul]
  have e (b : BitVec 8) : (b.signExtend 32).toInt = b.toInt := BitVec.toInt_signExtend_of_le (by decide)
  show up ((x (ix2 r k)).signExtend 32).toInt * up ((w (ix2 k l)).signExtend 32).toInt = _
  rw [e, e]

end Plain

end Cert.Sums
-- ==== Proof.Value.lean ====
/-
# The kernel's result is the reference's

Of memories that the precondition holds of, each device's result is its block of columns of the whole product.
-/
module

public import proofs.«01_k».proof.Proof.Frames
public import proofs.«01_k».proof.Proof.Sums
public import proofs.«01_k».proof.Proof.Gen.Pre_short_vectors_KernelIdeal
public import Idealize.ShloMosaic.Lib.Layout

@[expose] public section

set_option maxRecDepth 16384

noncomputable section

/-! ## The precondition, read -/

namespace Cert.Pre_short_vectors_KernelIdeal

open Idealize.ShloMosaic Cert.Sums

attribute [local instance] Gen.facts

/-- A comparison of a sum of squares that comes out true. -/
theorem short_of_le {K : ℕ} {x : Fin K → BitVec 8} {z : EReal} (hz : z = ∑ k, up (x k).toInt * up (x k).toInt)
    (h : Ideal.cmp .ole z (Ideal.ofBits .f32 0x4B7FFFFF#32) = 1#1) : Short x := by
  have hb : Ideal.ofBits .f32 0x4B7FFFFF#32 = up 16777215 := by
    simp [Ideal.ofBits, Ideal.ieee, up]
  have hs : z = up (∑ k, (x k).toInt * (x k).toInt) := by
    rw [hz, ← up_sum]; exact Finset.sum_congr rfl fun k _ => up_mul _ _
  rw [hb, hs] at h
  refine up_le.mp (of_decide_eq_true (Bool.eq_false_or_eq_true _ |>.resolve_right fun hne => ?_))
  unfold Ideal.cmp at h
  simp only [hne] at h
  exact absurd h (by decide)

variable (x : IVec S512x4096 8) (w : IVec S4096x256 8) (a b : FVec Ideal S1 .f32)

/-- Squares of the elements read as floats. -/
theorem square_up (v : BitVec 8) :
    FloatOps.mulf (F := Ideal) (φ := .f32) (FloatOps.sitofp .f32 (v.signExtend 32)) (FloatOps.sitofp .f32 (v.signExtend 32)) = up v.toInt * up v.toInt := by
  show up (v.signExtend 32).toInt * up (v.signExtend 32).toInt = _
  rw [BitVec.toInt_signExtend_of_le (by decide)]

/-- Every row of the left operand is short. -/
theorem rows_short (h : (fn (F := Ideal) x w a b).1 = fun _ => 1#1) (r : Fin 512) : Short fun k : Fin 4096 => x (ix2 r k) := by
  refine short_of_le (z := Host.reduceAdd (F := Ideal) (mulf (sitofp .f32 (extsi 32 x Facts.natLt_8_32)) (sitofp .f32 (extsi 32 x Facts.natLt_8_32)))
    (constant S_ .f32 0x00000000#32) Facts.reducesTo_S512x4096_S512_d1 Facts.h_S_ (ix1 r)) ?_ (congrFun h (ix1 r))
  rw [Host.reduceAdd_apply]
  refine (Ideal.hostReduceAdd_r2_a1 _ _ _ _).trans ?_
  rw [show (constant (F := Ideal) S_ .f32 0x00000000#32 (Shape.Idx.first Facts.h_S_)) = (0 : EReal) from Ideal.ofBits_zero_f32, zero_add]
  exact Finset.sum_congr rfl fun k _ => square_up _

/-- Every column of the right operand is short. -/
theorem cols_short (h : (fn (F := Ideal) x w a b).2 = fun _ => 1#1) (l : Fin 256) : Short fun k : Fin 4096 => w (ix2 k l) := by
  refine short_of_le (z := Host.reduceAdd (F := Ideal) (mulf (sitofp .f32 (extsi 32 w Facts.natLt_8_32)) (sitofp .f32 (extsi 32 w Facts.natLt_8_32)))
    (constant S_ .f32 0x00000000#32) Facts.reducesTo_S4096x256_S256_d0 Facts.h_S_ (ix1 l)) ?_ (congrFun h (ix1 l))
  rw [Host.reduceAdd_apply]
  refine (Ideal.hostReduceAdd_r2_a0 _ _ _ _).trans ?_
  rw [show (constant (F := Ideal) S_ .f32 0x00000000#32 (Shape.Idx.first Facts.h_S_)) = (0 : EReal) from Ideal.ofBits_zero_f32, zero_add]
  exact Finset.sum_congr rfl fun k _ => square_up _

end Cert.Pre_short_vectors_KernelIdeal

/-! ## One device's result -/

namespace Cert.Cube

open Cert.KernelIdeal Cert.KernelIdeal.Gen Cert.Sums
open Idealize.ShloMosaic Idealize.ShloMosaic.TcCoe Idealize.SL.Sem

variable (m : (ℓ : Loc nD τ sig) → Buf (Elt Ideal) ℓ)

/-- What a device starts with. -/
abbrev X (e : Dev nD) : IVec S512x4096 8 := m ((e.tc : Thread nD τ).loc main_arg0)
/-- A device's columns of `w_mat`. -/
abbrev W (c : Dev nD) : IVec S4096x256 8 := m ((c.tc : Thread nD τ).loc main_arg1)
/-- A device's scale of `x`. -/
abbrev SX (c : Dev nD) : FVec Ideal S1 .f32 := m ((c.tc : Thread nD τ).loc main_arg2)
/-- A device's scale of `w_mat`. -/
abbrev SW (c : Dev nD) : FVec Ideal S1 .f32 := m ((c.tc : Thread nD τ).loc main_arg3)

/-- The staged rows are the device's block of `x`. -/
theorem xstg_eq (e : Dev nD) : xstg m e = X m e := by
  have hz : (fun a => win0_0.index (0 : Fin 1) a * main_arg0.ty.shape.size a) = fun _ => 0 := funext fun a => by fin_cases a <;> decide
  exact Memref.read_access_unit_zero (Elt Ideal) main_arg0 hz (fun a => by fin_cases a <;> decide) _
/-- The staged columns are the device's block of `w_mat`. -/
theorem wstg_eq (e : Dev nD) : wstg m e = W m e := by
  have hz : (fun a => win0_1.index (0 : Fin 1) a * main_arg1.ty.shape.size a) = fun _ => 0 := funext fun a => by fin_cases a <;> decide
  exact Memref.read_access_unit_zero (Elt Ideal) main_arg1 hz (fun a => by fin_cases a <;> decide) _
/-- The staged scale of `x` is the argument. -/
theorem sxstg_eq (e : Dev nD) : sxstg m e = SX m e := by
  have hz : (fun a => win0_2.index (0 : Fin 1) a * main_arg2.ty.shape.size a) = fun _ => 0 := funext fun a => by fin_cases a <;> decide
  exact Memref.read_access_unit_zero (Elt Ideal) main_arg2 hz (fun a => by fin_cases a <;> decide) _
/-- The staged scale of `w_mat` is the argument. -/
theorem swstg_eq (e : Dev nD) : swstg m e = SW m e := by
  have hz : (fun a => win0_3.index (0 : Fin 1) a * main_arg3.ty.shape.size a) = fun _ => 0 := funext fun a => by fin_cases a <;> decide
  exact Memref.read_access_unit_zero (Elt Ideal) main_arg3 hz (fun a => by fin_cases a <;> decide) _

/-- Half `b` of the rows begins at row `256 b`. -/
theorem half_apply (b : Fin 2) (e : Dev nD) (r : Fin 256) (k : Fin 4096) :
    half m b e (ix2 r k) = X m e (ix2 ⟨256 * b.val + r.val, by omega⟩ k) := by
  unfold half
  rw [xstg_eq]
  show X m e _ = X m e _
  refine congrArg (X m e) (funext fun a => Fin.ext ?_)
  match a with
  | 0 => show 256 * b.val + 1 * r.val = _; simp
  | 1 => show 0 + 1 * k.val = _; simp

/-- The product of a short row and a short column, scaled. -/
theorem own_apply (c : Dev nD) (r : Fin 512) (l : Fin 256) (hx : Short fun k => X m c (ix2 r k)) (hw : Short fun k => W m c (ix2 k l)) :
    ownTile m c (ix2 r l) = up (dot (fun k => X m c (ix2 r k)) (fun k => W m c (ix2 k l))) * sc m c := by
  unfold ownTile k0_pay2
  simp only [shapeCast_self, xstg_eq, wstg_eq]
  rw [← unit_dot (X m c) (W m c) (constantI S512x256 32 0#32) r l rfl hx hw]
  rfl

/-- An element of a half block's product: the dot product of a row of that device and a column of this one, times the scale. -/
theorem tile_apply (c : Dev nD) (b : Fin 2) (e : Dev nD) (r : Fin 256) (l : Fin 256)
    (hx : Short fun k => half m b e (ix2 r k)) (hw : Short fun k => W m c (ix2 k l)) :
    tile m c b e (ix2 r l) = up (dot (fun k => half m b e (ix2 r k)) (fun k => W m c (ix2 k l))) * sc m c := by
  unfold tile k0_pay5
  simp only [shapeCast_self, wstg_eq]
  rw [← unit_dot (half m b e) (W m c) (constantI S256x256 32 0#32) r l rfl hx hw]
  rfl

/-- The place of a row within its device's block, and the column. -/
abbrev inDev (i : S4096x256.Idx) : Fin 512 := ⟨(i 0).val % 512, Nat.mod_lt _ (by decide)⟩
/-- The column of an element of the result. -/
abbrev col (i : S4096x256.Idx) : Fin 256 := ⟨(i 1).val, (i 1).isLt⟩

/-- The result at a place: the product of the row, wherever it came from, and the device's column, scaled. -/
theorem G_apply (c : Dev nD) (i : S4096x256.Idx) (hx : ∀ e r, Short fun k => X m e (ix2 r k)) (hw : ∀ l, Short fun k => W m c (ix2 k l)) :
    G m c i = up (dot (fun k => X m (rowDev i) (ix2 (inDev i) k)) (fun k => W m c (ix2 k (col i)))) * sc m c := by
  by_cases e : rowDev i = c
  · have hi : inOwn i = ix2 (inDev i) (col i) := funext fun a => by match a with | 0 => rfl | 1 => rfl
    refine (show G m c i = ownTile m c (inOwn i) from if_pos e).trans ?_
    rw [hi, own_apply m c _ _ (hx _ _) (hw _), e]
  · have hr (k : Fin 4096) : half m (rowHalf i) (rowDev i) (ix2 ⟨(i 0).val % 256, Nat.mod_lt _ (by decide)⟩ k) = X m (rowDev i) (ix2 (inDev i) k) := by
      rw [half_apply]
      refine congrArg (fun r => X m (rowDev i) (ix2 r k)) (Fin.ext ?_)
      show 256 * ((i 0).val / 256 % 2) + (i 0).val % 256 = (i 0).val % 512
      omega
    have hi : inTile i = ix2 ⟨(i 0).val % 256, Nat.mod_lt _ (by decide)⟩ (col i) := funext fun a => by match a with | 0 => rfl | 1 => rfl
    refine (show G m c i = tile m c (rowHalf i) (rowDev i) (inTile i) from if_neg e).trans ?_
    rw [hi, tile_apply m c _ _ _ _ (by simp only [hr]; exact hx _ _) (hw _)]
    simp only [hr]

/-- The scale is the product of the two scales. -/
theorem sc_eq (c : Dev nD) : sc m c = SX m c one * SW m c one := by
  unfold sc; rw [sxstg_eq, swstg_eq]; rfl

/-! ## The equation -/

/-- The reference's result, of its arguments. -/
def whole (x : IVec ⟨2, ![4096, 4096]⟩ 8) (w : IVec ⟨2, ![4096, 2048]⟩ 8) (a b : FVec Ideal S1 .f32) : FVec Ideal ⟨2, ![4096, 2048]⟩ .f32 :=
  fun j => up (dot (fun k : Fin 4096 => x (ix2 ⟨(j 0).val, (j 0).isLt⟩ k)) (fun k => w (ix2 k ⟨(j 1).val, (j 1).isLt⟩))) * (a one * b one)

/-- Each device's result is its block of the reference's columns. -/
theorem result_block (x : IVec ⟨2, ![4096, 4096]⟩ 8) (w : IVec ⟨2, ![4096, 2048]⟩ 8) (a b : FVec Ideal S1 .f32)
    (hX : ∀ c, X m c = Layout.block ⟨2, ![512, 4096]⟩ ⟨2, ![4096, 4096]⟩ 0 8 c x)
    (hW : ∀ c, W m c = Layout.block ⟨2, ![4096, 256]⟩ ⟨2, ![4096, 2048]⟩ 1 8 c w)
    (ha : ∀ c, SX m c = a) (hb : ∀ c, SW m c = b)
    (hx : ∀ e r, Short fun k => X m e (ix2 r k)) (hw : ∀ c l, Short fun k => W m c (ix2 k l)) (c : Dev nD) :
    G m c = Layout.block ⟨2, ![4096, 256]⟩ ⟨2, ![4096, 2048]⟩ 1 8 c (whole x w a b) := by
  refine funext fun (i : S4096x256.Idx) => (G_apply m c i hx (hw c)).trans ?_
  rw [sc_eq, ha, hb, Layout.block_apply]
  unfold whole
  refine congrArg (fun z => up z * (a one * b one)) (congrArg₂ dot (funext fun k => ?_) (funext fun k => ?_))
  · rw [hX, Layout.block_apply]
    refine congrArg x (funext fun d => Fin.ext ?_)
    match d with
    | 0 =>
      show (i 0).val / 512 * 512 + (i 0).val % 512 = (i 0).val
      omega
    | 1 => rfl
  · rw [hW, Layout.block_apply]
    refine congrArg w (funext fun d => Fin.ext ?_)
    match d with
    | 0 => rfl
    | 1 => rfl

end Cert.Cube

namespace Cert.Whole

open Cert.ReferenceIdeal Cert.ReferenceIdeal.Gen Cert.Sums
open Idealize.ShloMosaic Idealize.ShloMosaic.TcCoe Idealize.SL.Sem

/-- The one place of an array of one element. -/
theorem place_one (i j : S1.Idx) : i = j := funext fun a => Fin.ext (by
  match a with
  | 0 => exact (Nat.lt_one_iff.mp (i 0).isLt).trans (Nat.lt_one_iff.mp (j 0).isLt).symm)

/-- What the reference's operations come to. -/
theorem ops_whole (x : IVec S4096x4096 8) (w : IVec S4096x2048 8) (a b : FVec Ideal S1 .f32) :
    mulf (Host.dotGeneral dot_S4096x4096_S4096x2048_S4096x2048_1_0_0_1_n_n none (sitofp .f32 (extsi 32 x Cert.ReferenceIdeal.Facts₀.natLt_8_32)) (sitofp .f32 (extsi 32 w Cert.ReferenceIdeal.Facts₀.natLt_8_32)))
      (broadcastInDim S4096x2048 ![0, 1] Cert.ReferenceIdeal.Facts₀.bcast_S1x1_S4096x2048_0_1 (broadcastInDim S1x1 ![1] Cert.ReferenceIdeal.Facts₀.bcast_S1_S1x1_1 (mulf a b)))
    = Cert.Cube.whole x w a b := by
  funext j
  have hj : j = ix2 ⟨(j 0).val, (j 0).isLt⟩ ⟨(j 1).val, (j 1).isLt⟩ := funext fun d => by match d with | 0 => rfl | 1 => rfl
  unfold Cert.Cube.whole
  rw [← host_dot x w Cert.ReferenceIdeal.Facts₀.natLt_8_32 ⟨(j 0).val, (j 0).isLt⟩ ⟨(j 1).val, (j 1).isLt⟩]
  refine congrArg₂ (fun u v : EReal => u * v) (congrArg (Host.dotGeneral (DotDims.plain 4096 4096 2048) none _ _) hj) ?_
  refine congrArg (fun i => (a i : EReal) * (b i : EReal)) (place_one _ _)

end Cert.Whole

namespace Cert.Cube

open Cert.KernelIdeal.Gen Cert.Sums
open Idealize.ShloMosaic Idealize.ShloMosaic.TcCoe Idealize.SL.Sem

/-- The value claim: of memories the precondition holds of, both programs run, the reference's result is a whole array of which
    each device's result is its block of columns, and the arguments stay. -/
theorem equal_results : Cert.algebraic_KernelIdeal_ReferenceIdeal_pre_short_vectors_KernelIdeal (hPre_short_vectors_KernelIdeal := Cert.Pre_short_vectors_KernelIdeal.Gen.facts) := by
  intro m ρ m' ρ' hpre hag
  refine ⟨_, (θ_run Cert.KernelIdeal.defs _ _).mono (fun r h c => ⟨((h.1 c).1).trans ?_, (h.1 c).2⟩) (run_result m ρ),
    (θ_run Cert.ReferenceIdeal.defs _ _).mono (fun r h => ⟨(h 0).1.trans (Cert.Whole.ops_whole _ _ _ _), (h 0).2⟩) (Cert.ReferenceIdeal.Value.run (F := Ideal) m' ρ')⟩
  exact result_block m _ _ _ _ (fun c => (hag c).1) (fun c => (hag c).2.1) (fun c => (hag c).2.2.1) (fun c => (hag c).2.2.2)
    (fun e r => Cert.Pre_short_vectors_KernelIdeal.rows_short _ _ _ _ (hpre e).1 r)
    (fun e l => Cert.Pre_short_vectors_KernelIdeal.cols_short _ _ _ _ (hpre e).2 l) c

end Cert.Cube
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_short_vectors_KernelIdeal
public import proofs.«01_k».proof.Proof.Gen.Pre_short_vectors_ReferenceIdeal
public import proofs.«01_k».proof.Proof.Value
public import Idealize.ShloMosaic.Adequacy
public import Idealize.ShloMosaic.Init

@[expose] public section

noncomputable section

namespace Cert.Proof

/-- Both kernel programs and the reference run, keep their arguments and leave every semaphore at zero; the idealization rewrote
    nothing; and under the precondition each device's result is its block of the reference's. -/
theorem claim : Cert.Claim := ⟨Cert.Kernel.Gen.facts, Cert.KernelIdeal.Gen.facts, Cert.ReferenceIdeal.Gen.facts,
  Cert.Pre_short_vectors_KernelIdeal.Gen.facts, Cert.Pre_short_vectors_ReferenceIdeal.Gen.facts,
  Cert.Cube.frame_kernel, Cert.Cube.frame_ideal, Cert.Cube.frame_ideal_pre, Cert.Whole.frame_reference, Cert.Whole.frame_reference_pre,
  trivial, Cert.Cube.equal_results⟩

end Cert.Proof

end
